-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bf16_range [hPre_bf16_range : Cert.Pre_bf16_range.Facts] (m : (ℓ : Loc Cert.KernelIdeal.nD Cert.KernelIdeal.τ Cert.KernelIdeal.sig) → Buf (Elt Ideal) ℓ) : Prop :=
  ∀ c : Dev Cert.KernelIdeal.nD,
    (Cert.Pre_bf16_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bf16_range [hPre_bf16_range : Cert.Pre_bf16_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bf16_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_bf16_range [hKernelIdeal : Cert.KernelIdeal.Facts] [hPre_bf16_range : Cert.Pre_bf16_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bf16_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_bf16_range [hReferenceIdeal : Cert.ReferenceIdeal.Facts] [hPre_bf16_range : Cert.Pre_bf16_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bf16_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5))
      ∧ r.2.sem = fun _ => 0)

def preserves_Kernel_KernelIdeal : Prop :=
  IdealRules.bf16_pair.Statement Cert.KernelIdeal.S256x256 Cert.KernelIdeal.S128x256
  ∧ IdealRules.bf16_pair.Statement Cert.KernelIdeal.S128x256 Cert.KernelIdeal.S64x256
  ∧ IdealRules.bf16_pair.Statement Cert.KernelIdeal.S512x1024 Cert.KernelIdeal.S256x1024
  ∧ IdealRules.bf16_pair.Statement Cert.KernelIdeal.S256x1024 Cert.KernelIdeal.S128x1024

def preserves_Reference_ReferenceIdeal : Prop :=
  IdealRules.named_const.Statement Cert.ReferenceIdeal.κ "ln2" .f32 0x3F317218#32 ((Real.log 2 : ℝ) : EReal)

def algebraic_KernelIdeal_ReferenceIdeal_pre_bf16_range [hKernelIdeal : Cert.KernelIdeal.Facts] [hReferenceIdeal : Cert.ReferenceIdeal.Facts] [hPre_bf16_range : Cert.Pre_bf16_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bf16_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v4_0)) (v2 : (c : Dev Cert.KernelIdeal.nD) → Buf (Elt Ideal) ((c.tc : Thread Cert.KernelIdeal.nD Cert.KernelIdeal.τ).loc Cert.KernelIdeal.main_v6)) (v3 : (c : Dev Cert.KernelIdeal.nD) → Buf (Elt Ideal) ((c.tc : Thread Cert.KernelIdeal.nD Cert.KernelIdeal.τ).loc Cert.KernelIdeal.main_v7)) (v4 : (c : Dev Cert.KernelIdeal.nD) → Buf (Elt Ideal) ((c.tc : Thread Cert.KernelIdeal.nD Cert.KernelIdeal.τ).loc Cert.KernelIdeal.main_v8)) (v5 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v4_0) = v1 c
          ∧ r.2.mem ((c.tc : Thread Cert.KernelIdeal.nD Cert.KernelIdeal.τ).loc Cert.KernelIdeal.main_v6) = v2 c
          ∧ r.2.mem ((c.tc : Thread Cert.KernelIdeal.nD Cert.KernelIdeal.τ).loc Cert.KernelIdeal.main_v7) = v3 c
          ∧ r.2.mem ((c.tc : Thread Cert.KernelIdeal.nD Cert.KernelIdeal.τ).loc Cert.KernelIdeal.main_v8) = v4 c
          ∧ r.2.mem ((c.tc : Thread Cert.KernelIdeal.nD Cert.KernelIdeal.τ).loc Cert.KernelIdeal.main_v4_2) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hReference : Cert.Reference.Facts) (hPre_bf16_range : Cert.Pre_bf16_range.Facts),
    quiescent_Kernel (hKernel := hKernel)
    ∧ quiescent_KernelIdeal (hKernelIdeal := hKernelIdeal)
    ∧ quiescent_KernelIdeal_pre_bf16_range (hKernelIdeal := hKernelIdeal) (hPre_bf16_range := hPre_bf16_range)
    ∧ quiescent_ReferenceIdeal (hReferenceIdeal := hReferenceIdeal)
    ∧ quiescent_ReferenceIdeal_pre_bf16_range (hReferenceIdeal := hReferenceIdeal) (hPre_bf16_range := hPre_bf16_range)
    ∧ quiescent_Reference (hReference := hReference)
    ∧ preserves_Kernel_KernelIdeal
    ∧ preserves_Reference_ReferenceIdeal
    ∧ algebraic_KernelIdeal_ReferenceIdeal_pre_bf16_range (hKernelIdeal := hKernelIdeal) (hReferenceIdeal := hReferenceIdeal) (hPre_bf16_range := hPre_bf16_range)
-- ==== Pre_bf16_range.lean ====
abbrev S32x512x8192 : Shape := ⟨3, ![32, 512, 8192]⟩
abbrev S32x512x2048 : Shape := ⟨3, ![32, 512, 2048]⟩
abbrev S32x16x2048 : Shape := ⟨3, ![32, 16, 2048]⟩
abbrev S8192x2048 : Shape := ⟨2, ![8192, 2048]⟩
abbrev S256x2048 : Shape := ⟨2, ![256, 2048]⟩
abbrev S_ : Shape := ⟨0, ![]⟩

class Facts : Prop where
  bcast_S_S32x512x8192 : S_.BroadcastsInDim S32x512x8192 (![] : Fin 0 → Fin S32x512x8192.rank)
  reducesTo_S32x512x8192_S_d0_1_2 : S32x512x8192.ReducesTo [0, 1, 2] S_
  h_S_ : 0 < S_.numel

variable [Facts]

def fn {F : FTy → Type} [FloatOps F] (main_arg0 : FVec F S32x512x8192 .bf16) (main_arg1 : FVec F S32x512x2048 .fp8e4m3) (main_arg2 : IVec S32x16x2048 8) (main_arg3 : FVec F S8192x2048 .fp8e4m3) (main_arg4 : IVec S256x2048 8) (main_arg5 : FVec F S8192x2048 .f32) : IVec S_ 1 :=
  let main_v0 : FVec F S32x512x8192 .bf16 := Host.absf main_arg0
  let main_cst : FVec F S_ .bf16 := constant S_ .bf16 0x7F7F#16
  let main_v1 : FVec F S32x512x8192 .bf16 := broadcastInDim S32x512x8192 ![] bcast_S_S32x512x8192 main_cst
  let main_v2 : IVec S32x512x8192 1 := cmpf .ole main_v0 main_v1
  let main_cst_0 : FVec F S_ .bf16 := constant S_ .bf16 0x7F80#16
  let main_v3 : FVec F S32x512x8192 .bf16 := broadcastInDim S32x512x8192 ![] bcast_S_S32x512x8192 main_cst_0
  let main_v4 : IVec S32x512x8192 1 := cmpf .oeq main_v0 main_v3
  let main_v5 : IVec S32x512x8192 1 := ori main_v2 main_v4
  let main_c : IVec S_ 1 := constantI S_ 1 1#1
  let main_v6 : IVec S_ 1 := (fun x v => Host.reduce IntOp.andi x v reducesTo_S32x512x8192_S_d0_1_2 h_S_) main_v5 main_c
  main_v6
-- ==== Kernel.lean ====
abbrev S32x512x8192 : Shape := ⟨3, ![32, 512, 8192]⟩
abbrev S32x512x2048 : Shape := ⟨3, ![32, 512, 2048]⟩
abbrev S32x16x2048 : Shape := ⟨3, ![32, 16, 2048]⟩
abbrev S8192x2048 : Shape := ⟨2, ![8192, 2048]⟩
abbrev S256x2048 : Shape := ⟨2, ![256, 2048]⟩
abbrev S16384x8192 : Shape := ⟨2, ![16384, 8192]⟩
abbrev S16384x2048 : Shape := ⟨2, ![16384, 2048]⟩
abbrev S1024x2048 : Shape := ⟨2, ![1024, 2048]⟩
abbrev S32x2048 : Shape := ⟨2, ![32, 2048]⟩
abbrev S32x1x2048 : Shape := ⟨3, ![32, 1, 2048]⟩
abbrev S32x32x2048 : Shape := ⟨3, ![32, 32, 2048]⟩
abbrev S16384x256 : Shape := ⟨2, ![16384, 256]⟩
abbrev S256x8192 : Shape := ⟨2, ![256, 8192]⟩
abbrev S256x256 : Shape := ⟨2, ![256, 256]⟩
abbrev S128x256 : Shape := ⟨2, ![128, 256]⟩
abbrev S8x2x8x256 : Shape := ⟨4, ![8, 2, 8, 256]⟩
abbrev S8x1x8x256 : Shape := ⟨4, ![8, 1, 8, 256]⟩
abbrev S8x8x256 : Shape := ⟨3, ![8, 8, 256]⟩
abbrev S64x256 : Shape := ⟨2, ![64, 256]⟩
abbrev S8x256 : Shape := ⟨2, ![8, 256]⟩
abbrev S8x1x256 : Shape := ⟨3, ![8, 1, 256]⟩
abbrev S32x16x8192 : Shape := ⟨3, ![32, 16, 8192]⟩
abbrev S1024x1024 : Shape := ⟨2, ![1024, 1024]⟩
abbrev S2x16x2048 : Shape := ⟨3, ![2, 16, 2048]⟩
abbrev S2x16x1024 : Shape := ⟨3, ![2, 16, 1024]⟩
abbrev S512x1024 : Shape := ⟨2, ![512, 1024]⟩
abbrev S256x1024 : Shape := ⟨2, ![256, 1024]⟩
abbrev S16x2x8x1024 : Shape := ⟨4, ![16, 2, 8, 1024]⟩
abbrev S16x1x8x1024 : Shape := ⟨4, ![16, 1, 8, 1024]⟩
abbrev S16x8x1024 : Shape := ⟨3, ![16, 8, 1024]⟩
abbrev S128x1024 : Shape := ⟨2, ![128, 1024]⟩
abbrev S16x1024 : Shape := ⟨2, ![16, 1024]⟩
abbrev S16x1x1024 : Shape := ⟨3, ![16, 1, 1024]⟩
abbrev S1x16x1024 : Shape := ⟨3, ![1, 16, 1024]⟩
abbrev S1x16x2048 : Shape := ⟨3, ![1, 16, 2048]⟩
abbrev S16x2048 : Shape := ⟨2, ![16, 2048]⟩
abbrev S16x1x2048 : Shape := ⟨3, ![16, 1, 2048]⟩
abbrev S16x32x2048 : Shape := ⟨3, ![16, 32, 2048]⟩
abbrev S512x2048 : Shape := ⟨2, ![512, 2048]⟩
abbrev S32x512x256 : Shape := ⟨3, ![32, 512, 256]⟩

abbrev nBuf : Space → Nat
  | .hbm => 19
  | .vmem => 31
  | .smem => 0
  | _ => 0

abbrev bufTy : (tb : Table) → Fin (tcTables nBuf tb) → BufTy
  | .hbm, ⟨0, _⟩ => ⟨S32x512x8192, .bf16⟩
  | .hbm, ⟨1, _⟩ => ⟨S32x512x2048, .fp8e4m3⟩
  | .hbm, ⟨2, _⟩ => ⟨S32x16x2048, .i8⟩
  | .hbm, ⟨3, _⟩ => ⟨S8192x2048, .fp8e4m3⟩
  | .hbm, ⟨4, _⟩ => ⟨S256x2048, .i8⟩
  | .hbm, ⟨5, _⟩ => ⟨S8192x2048, .f32⟩
  | .hbm, ⟨6, _⟩ => ⟨S16384x8192, .bf16⟩
  | .hbm, ⟨7, _⟩ => ⟨S16384x2048, .fp8e4m3⟩
  | .hbm, ⟨8, _⟩ => ⟨S8192x2048, .bf16⟩
  | .hbm, ⟨9, _⟩ => ⟨S16384x2048, .bf16⟩
  | .hbm, ⟨10, _⟩ => ⟨S16384x8192, .fp8e5m2⟩
  | .hbm, ⟨11, _⟩ => ⟨S16384x256, .i8⟩
  | .hbm, ⟨12, _⟩ => ⟨S8192x2048, .f32⟩
  | .hbm, ⟨13, _⟩ => ⟨S16384x8192, .fp8e5m2⟩
  | .hbm, ⟨14, _⟩ => ⟨S32x16x8192, .i8⟩
  | .hbm, ⟨15, _⟩ => ⟨S32x512x2048, .bf16⟩
  | .hbm, ⟨16, _⟩ => ⟨S32x512x8192, .fp8e5m2⟩
  | .hbm, ⟨17, _⟩ => ⟨S32x512x256, .i8⟩
  | .hbm, ⟨18, _⟩ => ⟨S32x512x8192, .fp8e5m2⟩
  | .local _ .vmem, ⟨0, _⟩ => ⟨S1024x2048, .fp8e4m3⟩
  | .local _ .vmem, ⟨1, _⟩ => ⟨S1024x2048, .fp8e4m3⟩
  | .local _ .vmem, ⟨2, _⟩ => ⟨S32x2048, .i8⟩
  | .local _ .vmem, ⟨3, _⟩ => ⟨S32x2048, .i8⟩
  | .local _ .vmem, ⟨4, _⟩ => ⟨S1024x2048, .bf16⟩
  | .local _ .vmem, ⟨5, _⟩ => ⟨S1024x2048, .bf16⟩
  | .local _ .vmem, ⟨6, _⟩ => ⟨S256x8192, .bf16⟩
  | .local _ .vmem, ⟨7, _⟩ => ⟨S256x8192, .bf16⟩
  | .local _ .vmem, ⟨8, _⟩ => ⟨S8192x2048, .bf16⟩
  | .local _ .vmem, ⟨9, _⟩ => ⟨S256x2048, .bf16⟩
  | .local _ .vmem, ⟨10, _⟩ => ⟨S256x2048, .bf16⟩
  | .local _ .vmem, ⟨11, _⟩ => ⟨S256x8192, .fp8e5m2⟩
  | .local _ .vmem, ⟨12, _⟩ => ⟨S256x8192, .fp8e5m2⟩
  | .local _ .vmem, ⟨13, _⟩ => ⟨S256x256, .i8⟩
  | .local _ .vmem, ⟨14, _⟩ => ⟨S256x256, .i8⟩
  | .local _ .vmem, ⟨15, _⟩ => ⟨S256x8192, .bf16⟩
  | .local _ .vmem, ⟨16, _⟩ => ⟨S256x256, .f32⟩
  | .local _ .vmem, ⟨17, _⟩ => ⟨S1024x1024, .bf16⟩
  | .local _ .vmem, ⟨18, _⟩ => ⟨S1024x1024, .bf16⟩
  | .local _ .vmem, ⟨19, _⟩ => ⟨S1024x2048, .fp8e4m3⟩
  | .local _ .vmem, ⟨20, _⟩ => ⟨S1024x2048, .fp8e4m3⟩
  | .local _ .vmem, ⟨21, _⟩ => ⟨S2x16x2048, .i8⟩
  | .local _ .vmem, ⟨22, _⟩ => ⟨S2x16x2048, .i8⟩
  | .local _ .vmem, ⟨23, _⟩ => ⟨S1024x2048, .f32⟩
  | .local _ .vmem, ⟨24, _⟩ => ⟨S1024x2048, .f32⟩
  | .local _ .vmem, ⟨25, _⟩ => ⟨S1024x2048, .f32⟩
  | .local _ .vmem, ⟨26, _⟩ => ⟨S1024x2048, .f32⟩
  | .local _ .vmem, ⟨27, _⟩ => ⟨S1024x1024, .fp8e5m2⟩
  | .local _ .vmem, ⟨28, _⟩ => ⟨S1024x1024, .fp8e5m2⟩
  | .local _ .vmem, ⟨29, _⟩ => ⟨S2x16x1024, .i8⟩
  | .local _ .vmem, ⟨30, _⟩ => ⟨S2x16x1024, .i8⟩
  | _, _ => ⟨S32x512x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_scratch0 : Ref sig .tc := ⟨.vmem, 15, rfl⟩
abbrev cc1_scratch1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg4_1 : Ref sig .tc := ⟨.vmem, 26, rfl⟩
abbrev cc2_stg5_0 : Ref sig .tc := ⟨.vmem, 27, rfl⟩
abbrev cc2_stg5_1 : Ref sig .tc := ⟨.vmem, 28, rfl⟩
abbrev cc2_stg6_0 : Ref sig .tc := ⟨.vmem, 29, rfl⟩
abbrev cc2_stg6_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22
abbrev cc2_sem4_0 : DmaSem sig := 23
abbrev cc2_sem4_1 : DmaSem sig := 24
abbrev cc2_sem5_0 : DmaSem sig := 25
abbrev cc2_sem5_1 : DmaSem sig := 26
abbrev cc2_sem6_0 : DmaSem sig := 27
abbrev cc2_sem6_1 : DmaSem sig := 28

abbrev nD : Nat := 1
abbrev τ : Topo := Topo.v7x

variable {F : FTy → Type} [BitOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x2048 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x8192 .fp8e5m2 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x256 .i8 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨2, ![8, 16], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x2048 .fp8e4m3 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2x16x2048 .i8 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1024x2048 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S1024x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S1024x1024 .fp8e5m2 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S2x16x1024 .i8 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]
-- ==== KernelIdeal.lean ====
variable {F : FTy → Type} [FloatOps F]
-- ==== ReferenceIdeal.lean ====
variable {F : FTy → Type} [FloatOps F] [Named F]
def κ : String → Option EReal := fun
  | "ln2" => some ((Real.log 2 : ℝ) : EReal)
  | _ => none
-- ==== Reference.lean ====
abbrev S32x512x8192 : Shape := ⟨3, ![32, 512, 8192]⟩
abbrev S32x512x2048 : Shape := ⟨3, ![32, 512, 2048]⟩
abbrev S32x16x2048 : Shape := ⟨3, ![32, 16, 2048]⟩
abbrev S8192x2048 : Shape := ⟨2, ![8192, 2048]⟩
abbrev S256x2048 : Shape := ⟨2, ![256, 2048]⟩
abbrev S32x512x256 : Shape := ⟨3, ![32, 512, 256]⟩
abbrev S32x16x8192 : Shape := ⟨3, ![32, 16, 8192]⟩
abbrev S32x512x256x32 : Shape := ⟨4, ![32, 512, 256, 32]⟩
abbrev S32x512x256x1 : Shape := ⟨4, ![32, 512, 256, 1]⟩
abbrev S32x16x32x8192 : Shape := ⟨4, ![32, 16, 32, 8192]⟩
abbrev S32x16x1x8192 : Shape := ⟨4, ![32, 16, 1, 8192]⟩
abbrev S256x32x2048 : Shape := ⟨3, ![256, 32, 2048]⟩
abbrev S256x1x2048 : Shape := ⟨3, ![256, 1, 2048]⟩
abbrev S16384x8192 : Shape := ⟨2, ![16384, 8192]⟩
abbrev S16384x2048 : Shape := ⟨2, ![16384, 2048]⟩
abbrev S32x16x32x2048 : Shape := ⟨4, ![32, 16, 32, 2048]⟩
abbrev S32x16x1x2048 : Shape := ⟨4, ![32, 16, 1, 2048]⟩

abbrev nBuf : Space → Nat
  | .hbm => 12
  | .vmem => 12
  | .smem => 0
  | _ => 0

abbrev bufTy : (tb : Table) → Fin (tcTables nBuf tb) → BufTy
  | .hbm, ⟨0, _⟩ => ⟨S32x512x8192, .bf16⟩
  | .hbm, ⟨1, _⟩ => ⟨S32x512x2048, .fp8e4m3⟩
  | .hbm, ⟨2, _⟩ => ⟨S32x16x2048, .i8⟩
  | .hbm, ⟨3, _⟩ => ⟨S8192x2048, .fp8e4m3⟩
  | .hbm, ⟨4, _⟩ => ⟨S256x2048, .i8⟩
  | .hbm, ⟨5, _⟩ => ⟨S8192x2048, .f32⟩
  | .hbm, ⟨6, _⟩ => ⟨S32x512x2048, .bf16⟩
  | .hbm, ⟨7, _⟩ => ⟨S8192x2048, .f32⟩
  | .hbm, ⟨8, _⟩ => ⟨S32x512x8192, .fp8e5m2⟩
  | .hbm, ⟨9, _⟩ => ⟨S32x512x256, .i8⟩
  | .hbm, ⟨10, _⟩ => ⟨S32x512x8192, .fp8e5m2⟩
  | .hbm, ⟨11, _⟩ => ⟨S32x16x8192, .i8⟩
  | .local _ .vmem, ⟨0, _⟩ => ⟨S32x512x8192, .bf16⟩
  | .local _ .vmem, ⟨1, _⟩ => ⟨S32x512x2048, .fp8e4m3⟩
  | .local _ .vmem, ⟨2, _⟩ => ⟨S32x16x2048, .i8⟩
  | .local _ .vmem, ⟨3, _⟩ => ⟨S8192x2048, .fp8e4m3⟩
  | .local _ .vmem, ⟨4, _⟩ => ⟨S256x2048, .i8⟩
  | .local _ .vmem, ⟨5, _⟩ => ⟨S8192x2048, .f32⟩
  | .local _ .vmem, ⟨6, _⟩ => ⟨S32x512x2048, .bf16⟩
  | .local _ .vmem, ⟨7, _⟩ => ⟨S8192x2048, .f32⟩
  | .local _ .vmem, ⟨8, _⟩ => ⟨S32x512x8192, .fp8e5m2⟩
  | .local _ .vmem, ⟨9, _⟩ => ⟨S32x512x256, .i8⟩
  | .local _ .vmem, ⟨10, _⟩ => ⟨S32x512x8192, .fp8e5m2⟩
  | .local _ .vmem, ⟨11, _⟩ => ⟨S32x16x8192, .i8⟩
  | _, _ => ⟨S32x512x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S32x512x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x512x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x16x2048 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x2048 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x2048 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x512x8192 .fp8e5m2 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x512x256 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x512x8192 .fp8e5m2 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x16x8192 .i8 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Scalar.lean ====
/- The scalar mathematics of MXFP8's shared exponents at the ideal instance: a float is an extended real, and a bit
   pattern is read as the number it denotes. Everything here is about ONE block maximum or ONE scale byte; the other
   modules say which block, and which byte, an array's entry takes. -/
module

public import Idealize.ShloMosaic.PureOps.Ideal
public import Mathlib.Analysis.SpecialFunctions.Pow.Real

@[expose] public section

noncomputable section

namespace Cert.Mx

open Idealize.ShloMosaic

/-- What the exponent field `e` alone denotes (mantissa 0): 0, a power of two, or infinity. -/
def pw (e : ℕ) : EReal := if e = 0 then 0 else if e = 255 then ⊤ else ((2 : ℝ) ^ ((e : ℤ) - 127) : ℝ)

/-- One step of the kernel's search for the exponent field of `p`: set bit `b` of the word if `p` still reaches it. -/
def fieldStep (p : EReal) (w b : BitVec 32) : BitVec 32 :=
  Scalar.select (FloatOps.cmpf (F := Ideal) (φ := .f32) .oge p (FloatOps.ofBits .f32 (IntOp.ori w b))) (IntOp.ori w b) w

/-- The kernel's search, from the top bit down. -/
def fieldWord (p : EReal) : BitVec 32 :=
  fieldStep p (fieldStep p (fieldStep p (fieldStep p (fieldStep p (fieldStep p (fieldStep p (fieldStep p 0#32
    1073741824#32) 536870912#32) 268435456#32) 134217728#32) 67108864#32) 33554432#32) 16777216#32) 8388608#32

/-- The kernel's scale byte, as a word, of `p` = block maximum over the format's maximum. -/
def byteW (p : EReal) : BitVec 32 :=
  Scalar.select (IntOp.ori (IntOp.cmpi .eq (IntOp.shrsi .vector (fieldWord p) 23#32) 0#32)
      (IntOp.cmpi .eq (IntOp.shrsi .vector (fieldWord p) 23#32) 255#32))
    127#32 (IntOp.addi (IntOp.shrsi .vector (fieldWord p) 23#32) 1#32)

/-- The word of a scale byte twice over: two bf16 exponent fields, one in each half. -/
def pairW (b : BitVec 32) : BitVec 32 :=
  IntOp.ori (IntOp.shli .vector b 7#32) (IntOp.shli .vector (IntOp.shli .vector b 7#32) 16#32)

/-- The reference's exponent of `p`. -/
def expoW (p : EReal) : BitVec 32 :=
  Scalar.select (IntOp.ori (FloatOps.cmpf (F := Ideal) (φ := .f32) .olt p (FloatOps.ofBits .f32 0x00800000#32))
      (FloatOps.cmpf (F := Ideal) (φ := .f32) .oeq p (FloatOps.ofBits .f32 0x7F800000#32)))
    0#32 (IntOp.addi (FloatOps.fptosi (F := Ideal) (φ := .f32) 32
      (FloatOps.floor (F := Ideal) (φ := .f32) (FloatOps.divf (F := Ideal) (φ := .f32)
        (FloatOps.log (F := Ideal) (φ := .f32) p) ((Real.log 2 : ℝ) : EReal)))) 1#32)

/-- The reference's `ldexp(1, e)`. -/
def ldexpW (e : BitVec 32) : EReal :=
  Scalar.select (IntOp.cmpi .slt e 4294967170#32) (FloatOps.ofBits (F := Ideal) .f32 0x00000000#32)
    (Scalar.select (IntOp.cmpi .sgt e 127#32) (FloatOps.ofBits (F := Ideal) .f32 0x7F800000#32)
      (FloatOps.exp2 (F := Ideal) (φ := .f32) (FloatOps.sitofp (F := Ideal) .f32 e)))

/-! ## What the bit patterns denote -/

/-- An f32 word with exponent field `e` and no mantissa. -/
theorem ofBits_f32_field (e : ℕ) (he : e < 256) : Ideal.ofBits .f32 (BitVec.ofNat 32 (e * 2 ^ 23)) = pw e := by
  have hx : ∀ e : Fin 256, ((BitVec.ofNat 32 (e.val * 2 ^ 23)).extractLsb' 31 1 == 1#1) = false
      ∧ ((BitVec.ofNat 32 (e.val * 2 ^ 23)).extractLsb' 23 8).toNat = e.val
      ∧ ((BitVec.ofNat 32 (e.val * 2 ^ 23)).extractLsb' 0 23).toNat = 0 := by decide +kernel
  obtain ⟨h1, h2, h3⟩ := hx ⟨e, he⟩
  simp only at h1 h2 h3
  simp only [Ideal.ofBits, Ideal.ieee, pw]
  rw [show 8 + 23 = 31 from rfl, h1, h2, h3]
  by_cases h255 : e = 255
  · subst h255; simp
  · by_cases h0 : e = 0
    · subst h0; simp
    · rw [if_neg (by omega), if_neg h0, if_neg h0, if_neg h255]
      congr 1
      rw [show ((e : ℤ) - 127) = 23 + ((e : ℤ) - 150) by ring, zpow_add₀ (by norm_num)]
      norm_num
      ring

/-- A bf16 word with exponent field `e` and no mantissa. -/
theorem ofBits_bf16_field (e : ℕ) (he : e < 256) : Ideal.ofBits .bf16 (BitVec.ofNat 16 (e * 2 ^ 7)) = pw e := by
  have hx : ∀ e : Fin 256, ((BitVec.ofNat 16 (e.val * 2 ^ 7)).extractLsb' 15 1 == 1#1) = false
      ∧ ((BitVec.ofNat 16 (e.val * 2 ^ 7)).extractLsb' 7 8).toNat = e.val
      ∧ ((BitVec.ofNat 16 (e.val * 2 ^ 7)).extractLsb' 0 7).toNat = 0 := by decide +kernel
  obtain ⟨h1, h2, h3⟩ := hx ⟨e, he⟩
  simp only at h1 h2 h3
  simp only [Ideal.ofBits, Ideal.ieee, pw]
  rw [show 8 + 7 = 15 from rfl, h1, h2, h3]
  by_cases h255 : e = 255
  · subst h255; simp
  · by_cases h0 : e = 0
    · subst h0; simp
    · rw [if_neg (by omega), if_neg h0, if_neg h0, if_neg h255]
      congr 1
      rw [show ((e : ℤ) - 127) = 7 + ((e : ℤ) - 134) by ring, zpow_add₀ (by norm_num)]
      norm_num
      ring

/-- `pw` is monotone. -/
theorem pw_mono {e f : ℕ} (h : e ≤ f) (hf : f < 256) : pw e ≤ pw f := by
  unfold pw
  by_cases hf255 : f = 255
  · subst hf255; simp
  · by_cases he0 : e = 0
    · subst he0
      by_cases h0 : f = 0
      · subst h0; exact le_rfl
      · simp only [if_true, if_neg h0, if_neg hf255]
        exact EReal.coe_nonneg.2 (by positivity)
    · rw [if_neg he0, if_neg (by omega), if_neg (by omega), if_neg hf255]
      exact EReal.coe_le_coe_iff.2 (zpow_le_zpow_right₀ (by norm_num) (by omega))

/-! ## The search for the exponent field -/

/-- A step of the search, on the field's value instead of its word. -/
def natStep (p : EReal) (e k : ℕ) : ℕ := if pw (e + 2 ^ k) ≤ p then e + 2 ^ k else e

/-- The word's step is the field's step. -/
theorem fieldStep_eq (p : EReal) (e k : ℕ) (he : e < 256) (hk : k < 8) (hd : e % 2 ^ (k + 1) = 0) :
    fieldStep p (BitVec.ofNat 32 (e * 2 ^ 23)) (BitVec.ofNat 32 (2 ^ k * 2 ^ 23)) = BitVec.ofNat 32 (natStep p e k * 2 ^ 23) := by
  have hor : ∀ (e : Fin 256) (k : Fin 8), e.val % 2 ^ (k.val + 1) = 0 →
      IntOp.ori (BitVec.ofNat 32 (e.val * 2 ^ 23)) (BitVec.ofNat 32 (2 ^ k.val * 2 ^ 23)) = BitVec.ofNat 32 ((e.val + 2 ^ k.val) * 2 ^ 23)
      ∧ e.val + 2 ^ k.val < 256 := by decide +kernel
  obtain ⟨h1, h2⟩ := hor ⟨e, he⟩ ⟨k, hk⟩ hd
  simp only at h1 h2
  unfold fieldStep natStep
  rw [h1]
  change Scalar.select (Ideal.cmp .oge p (Ideal.ofBits .f32 _)) _ _ = _
  rw [ofBits_f32_field _ h2]
  by_cases hp : pw (e + 2 ^ k) ≤ p <;> simp [Ideal.cmp, Scalar.select, hp]

/-- What holds of the field after the step of bit `k`. -/
def Inv (p : EReal) (k e : ℕ) : Prop :=
  e % 2 ^ k = 0 ∧ e + 2 ^ k ≤ 256 ∧ pw e ≤ p ∧ (e + 2 ^ k = 256 ∨ p < pw (e + 2 ^ k))

/-- A step keeps it. -/
theorem inv_step (p : EReal) (k e : ℕ) (h : Inv p (k + 1) e) : Inv p k (natStep p e k) := by
  obtain ⟨h1, h2, h3, h4⟩ := h
  have hk : 2 ^ (k + 1) = 2 ^ k + 2 ^ k := by ring
  have hm : e % 2 ^ k = 0 := Nat.mod_eq_zero_of_dvd ((Dvd.intro_left (2 ^ 1) (by ring)).trans (Nat.dvd_of_mod_eq_zero h1))
  unfold natStep
  split_ifs with hp
  · refine ⟨by rw [Nat.add_mod_right]; exact hm, by omega, hp, ?_⟩
    rw [show e + 2 ^ k + 2 ^ k = e + 2 ^ (k + 1) by omega]; exact h4
  · exact ⟨hm, by omega, h3, Or.inr (lt_of_not_ge hp)⟩

/-- The exponent field of `p`, as the search leaves it. -/
def field (p : EReal) : ℕ :=
  natStep p (natStep p (natStep p (natStep p (natStep p (natStep p (natStep p (natStep p 0 7) 6) 5) 4) 3) 2) 1) 0

/-- The search finds the greatest field whose power of two `p` reaches. -/
theorem fieldWord_eq (p : EReal) (hp : 0 ≤ p) :
    fieldWord p = BitVec.ofNat 32 (field p * 2 ^ 23) ∧ field p < 256 ∧ pw (field p) ≤ p
      ∧ (field p = 255 ∨ p < pw (field p + 1)) := by
  have i8 : Inv p 8 0 := ⟨rfl, by norm_num, by simpa [pw] using hp, Or.inl rfl⟩
  have i7 := inv_step p 7 _ i8
  have i6 := inv_step p 6 _ i7
  have i5 := inv_step p 5 _ i6
  have i4 := inv_step p 4 _ i5
  have i3 := inv_step p 3 _ i4
  have i2 := inv_step p 2 _ i3
  have i1 := inv_step p 1 _ i2
  have i0 := inv_step p 0 _ i1
  have lt : ∀ {k e : ℕ}, Inv p k e → e < 256 := fun {k e} h => by
    have := h.2.1; have := Nat.one_le_two_pow (n := k); omega
  refine ⟨?_, lt i0, i0.2.2.1, ?_⟩
  · unfold fieldWord field
    rw [← fieldStep_eq p _ 0 (lt i1) (by norm_num) i1.1, ← fieldStep_eq p _ 1 (lt i2) (by norm_num) i2.1,
      ← fieldStep_eq p _ 2 (lt i3) (by norm_num) i3.1, ← fieldStep_eq p _ 3 (lt i4) (by norm_num) i4.1,
      ← fieldStep_eq p _ 4 (lt i5) (by norm_num) i5.1, ← fieldStep_eq p _ 5 (lt i6) (by norm_num) i6.1,
      ← fieldStep_eq p _ 6 (lt i7) (by norm_num) i7.1, ← fieldStep_eq p _ 7 (lt i8) (by norm_num) i8.1]
    rfl
  · rcases i0.2.2.2 with h | h
    · left; change field p + 2 ^ 0 = 256 at h; omega
    · right; exact h

/-- The scale byte as a number. -/
def byteN (p : EReal) : ℕ := if field p = 0 ∨ field p = 255 then 127 else field p + 1

/-- What the kernel makes of the field's word. -/
def byteOfField (w : BitVec 32) : BitVec 32 :=
  Scalar.select (IntOp.ori (IntOp.cmpi .eq (IntOp.shrsi .vector w 23#32) 0#32)
      (IntOp.cmpi .eq (IntOp.shrsi .vector w 23#32) 255#32))
    127#32 (IntOp.addi (IntOp.shrsi .vector w 23#32) 1#32)

/-- On each of the 256 fields it is the field plus one, or 127 at either end. -/
theorem byteOfField_eq (e : ℕ) (he : e < 256) :
    byteOfField (BitVec.ofNat 32 (e * 2 ^ 23)) = BitVec.ofNat 32 (if e = 0 ∨ e = 255 then 127 else e + 1) := by
  have hx : ∀ e : Fin 256, byteOfField (BitVec.ofNat 32 (e.val * 2 ^ 23))
      = BitVec.ofNat 32 (if e.val = 0 ∨ e.val = 255 then 127 else e.val + 1) := by decide +kernel
  exact hx ⟨e, he⟩

/-- The kernel's word is that number. -/
theorem byteW_eq (p : EReal) (hp : 0 ≤ p) : byteW p = BitVec.ofNat 32 (byteN p) := by
  obtain ⟨h1, h2, -, -⟩ := fieldWord_eq p hp
  have h := byteOfField_eq (field p) h2
  rw [← h1] at h
  exact h

/-! ## The reference's exponent -/

/-- The floor of the binary logarithm, as a 32-bit integer. -/
def logW (p : EReal) : BitVec 32 :=
  Ideal.fptosi 32 (Ideal.liftRound Int.floor (Ideal.div (Ideal.log p) ((Real.log 2 : ℝ) : EReal)))

/-- A number between two neighbouring powers of two has the lower one's exponent. -/
theorem logW_eq (r : ℝ) (n : ℤ) (hn : -200 < n ∧ n < 200) (hlo : (2 : ℝ) ^ n ≤ r) (hhi : r < (2 : ℝ) ^ (n + 1)) :
    logW (r : EReal) = BitVec.ofInt 32 n := by
  have hr : 0 < r := lt_of_lt_of_le (by positivity) hlo
  have hl2 : (0 : ℝ) < Real.log 2 := Real.log_pos (by norm_num)
  have h1 : (n : ℝ) ≤ Real.log r / Real.log 2 := by
    rw [le_div_iff₀ hl2]
    have := Real.log_le_log (by positivity) hlo
    rwa [Real.log_zpow] at this
  have h2 : Real.log r / Real.log 2 < (n : ℝ) + 1 := by
    rw [div_lt_iff₀ hl2]
    have := Real.log_lt_log hr hhi
    rw [Real.log_zpow] at this
    exact_mod_cast this
  have hf : ⌊Real.log r / Real.log 2⌋ = n := Int.floor_eq_iff.2 ⟨h1, h2⟩
  have hlog : Ideal.log (r : EReal) = ((Real.log r : ℝ) : EReal) := by
    rw [Ideal.log_coe, if_neg (not_le.2 hr)]
  have hdiv : Ideal.div ((Real.log r : ℝ) : EReal) ((Real.log 2 : ℝ) : EReal) = ((Real.log r / Real.log 2 : ℝ) : EReal) := by
    unfold Ideal.div
    rw [if_neg (by exact_mod_cast hl2.ne'), ← EReal.coe_inv, ← EReal.coe_mul]
    rfl
  unfold logW
  rw [hlog, hdiv]
  have hfl : Ideal.liftRound Int.floor ((Real.log r / Real.log 2 : ℝ) : EReal) = ((n : ℝ) : EReal) := by
    change (((⌊Real.log r / Real.log 2⌋ : ℤ) : ℝ) : EReal) = _
    rw [hf]
  rw [hfl]
  unfold Ideal.fptosi
  rw [Ideal.toIntClamped_coe]
  have hc : max (-((2 ^ (32 - 1) : ℕ) : ℤ)) (min (((2 ^ (32 - 1) : ℕ) : ℤ) - 1) (if 0 ≤ (n : ℝ) then ⌊(n : ℝ)⌋ else ⌈(n : ℝ)⌉)) = n := by
    rw [Int.floor_intCast, Int.ceil_intCast, ite_self]
    norm_num
    omega
  rw [hc]

/-- A select by the disjunction of two conditions. -/
theorem select_ori {α : Type} (a b : Bool) (x y : α) :
    Scalar.select (IntOp.ori (BitVec.ofBool a) (BitVec.ofBool b)) x y = if a = true ∨ b = true then x else y := by
  cases a <;> cases b <;> rfl

/-- The reference's exponent, case by case. -/
theorem expoW_ite (p : EReal) :
    expoW p = if p < pw 1 ∨ p = pw 255 then 0#32 else IntOp.addi (logW p) 1#32 := by
  have hmin : FloatOps.ofBits (F := Ideal) .f32 0x00800000#32 = pw 1 := ofBits_f32_field 1 (by norm_num)
  have hinf : FloatOps.ofBits (F := Ideal) .f32 0x7F800000#32 = pw 255 := ofBits_f32_field 255 (by norm_num)
  unfold expoW
  rw [hmin, hinf]
  refine (select_ori (decide (p < pw 1)) (decide (p = pw 255)) _ _).trans ?_
  simp only [decide_eq_true_eq]
  rfl

/-- The field at infinity is above everything. -/
theorem pw_top : pw 255 = ⊤ := by unfold pw; rw [if_neg (by norm_num), if_pos rfl]

/-- The fields between denote powers of two. -/
theorem pw_mid {e : ℕ} (h0 : e ≠ 0) (h255 : e ≠ 255) : pw e = ((2 : ℝ) ^ ((e : ℤ) - 127) : ℝ) := by
  unfold pw; rw [if_neg h0, if_neg h255]

/-- Below the field of infinity a number from the first power of two on has its field's exponent. -/
theorem logW_field (p : EReal) (e : ℕ) (h0 : e ≠ 0) (he : e < 254) (h3 : pw e ≤ p) (h4 : p < pw (e + 1)) (hp : p ≠ ⊤) :
    logW p = BitVec.ofInt 32 ((e : ℤ) - 127) := by
  rw [pw_mid h0 (by omega)] at h3
  induction p using EReal.rec with
  | bot => exact absurd h3 (not_le.2 (EReal.bot_lt_coe _))
  | top => exact absurd rfl hp
  | coe r =>
    have h3' := EReal.coe_le_coe_iff.1 h3
    refine logW_eq r _ (by omega) h3' ?_
    rw [pw_mid (by omega) (by omega)] at h4
    have := EReal.coe_lt_coe_iff.1 h4
    rw [show ((e : ℤ) - 127 + 1) = ((e + 1 : ℕ) : ℤ) - 127 by push_cast; ring]
    exact this

/-- The reference's exponent, from the same field. -/
theorem expoW_eq (p : EReal) (hp : 0 ≤ p) (hf : field p ≠ 254) :
    expoW p = if field p = 0 ∨ field p = 255 then 0#32 else IntOp.addi (BitVec.ofInt 32 ((field p : ℤ) - 127)) 1#32 := by
  obtain ⟨-, h2, h3, h4⟩ := fieldWord_eq p hp
  generalize field p = e at h2 h3 h4 hf ⊢
  rw [expoW_ite]
  by_cases hc : e = 0 ∨ e = 255
  · rw [if_pos hc]
    have h : p < pw 1 ∨ p = pw 255 := by
      rcases hc with rfl | rfl
      · exact Or.inl (h4.resolve_left (by norm_num))
      · exact Or.inr (le_antisymm (le_of_le_of_eq le_top pw_top.symm) h3)
    rw [if_pos h]
  · rw [if_neg hc]
    have h0 : e ≠ 0 := fun h => hc (Or.inl h)
    have h255 : e ≠ 255 := fun h => hc (Or.inr h)
    have hlt : p < pw (e + 1) := h4.resolve_left h255
    have h1p : pw 1 ≤ p := (pw_mono (by omega) h2).trans h3
    have hnt : p ≠ ⊤ := fun h => by
      have h' := hlt.trans_le (le_of_le_of_eq le_top pw_top.symm)
      rw [h, pw_top] at h'; exact lt_irrefl _ h'
    have hno : ¬ (p < pw 1 ∨ p = pw 255) := fun h => h.elim (not_lt.2 h1p) (fun h => hnt (h.trans pw_top))
    rw [if_neg hno, logW_field p e h0 (by omega) h3 hlt hnt]

end Cert.Mx
-- ==== Proof.Scale.lean ====
/- The shared exponent of a block of 32 numbers, at the ideal instance: the byte that stores it, the two scales made from
   it, and the code of an element. The kernel's words and the reference's words are both brought to these. -/
module

public import proofs.«01_k».proof.Proof.Scalar

@[expose] public section

noncomputable section

namespace Cert.Mx

open Idealize.ShloMosaic

/-- The greatest magnitude of a block. -/
def amax (g : Fin 32 → EReal) : EReal := Finset.univ.sup fun k => max (g k) (-(g k))

/-- The block maximum over the format's maximum. -/
def pOf (a : EReal) : EReal := a * Ideal.ofBits .f32 0x37924925#32

/-- The scale byte of a block, as a number. -/
def scaleN (g : Fin 32 → EReal) : ℕ := byteN (pOf (amax g))

/-- The code of an element `x` of a block. -/
def codeV (g : Fin 32 → EReal) (x : EReal) : EReal :=
  min (Ideal.ofBits .f32 0x47600000#32) (max (Ideal.ofBits .f32 0xC7600000#32) (x * pw (254 - scaleN g)))

/-- What the code of an element `x` of a block stands for. -/
def deqV (g : Fin 32 → EReal) (x : EReal) : EReal := codeV g x * pw (scaleN g)

/-- A bf16 number: within the finite range or infinite. -/
def Good (x : EReal) : Prop := max x (-x) ≤ Ideal.ofBits .bf16 0x7F7F#16 ∨ max x (-x) = ⊤

/-! ## The range of the block maximum -/

theorem abs_nonneg' (x : EReal) : 0 ≤ max x (-x) := by
  rcases le_total 0 x with h | h
  · exact le_max_of_le_left h
  · exact le_max_of_le_right (EReal.neg_le_neg_iff.2 h |>.trans' (by simp))

theorem amax_nonneg (g : Fin 32 → EReal) : 0 ≤ amax g :=
  (abs_nonneg' (g 0)).trans (Finset.le_sup (f := fun k => max (g k) (-(g k))) (Finset.mem_univ 0))

/-- The greatest magnitude is one of the magnitudes. -/
theorem amax_good (g : Fin 32 → EReal) (h : ∀ k, Good (g k)) :
    amax g ≤ Ideal.ofBits .bf16 0x7F7F#16 ∨ amax g = ⊤ := by
  obtain ⟨k, -, hk⟩ := Finset.exists_mem_eq_sup (Finset.univ : Finset (Fin 32)) ⟨0, Finset.mem_univ _⟩
    (fun k => max (g k) (-(g k)))
  unfold amax
  rw [hk]
  exact h k

/-- The factor, as a number. -/
theorem fac_eq : Ideal.ofBits .f32 0x37924925#32 = ((9586981 * 2 ^ (-39 : ℤ) : ℝ) : EReal) := by
  have h1 : ((0x37924925#32).extractLsb' 31 1 == 1#1) = false := by decide
  have h2 : ((0x37924925#32).extractLsb' 23 8).toNat = 111 := by decide
  have h3 : ((0x37924925#32).extractLsb' 0 23).toNat = 1198373 := by decide
  simp only [Ideal.ofBits, Ideal.ieee]
  rw [show 8 + 23 = 31 from rfl, h1, h2, h3]
  norm_num

/-- bf16's greatest finite number. -/
theorem max_eq : Ideal.ofBits .bf16 0x7F7F#16 = ((255 * 2 ^ (120 : ℤ) : ℝ) : EReal) := by
  have h1 : ((0x7F7F#16).extractLsb' 15 1 == 1#1) = false := by decide
  have h2 : ((0x7F7F#16).extractLsb' 7 8).toNat = 254 := by decide
  have h3 : ((0x7F7F#16).extractLsb' 0 7).toNat = 127 := by decide
  simp only [Ideal.ofBits, Ideal.ieee]
  rw [show 8 + 7 = 15 from rfl, h1, h2, h3]
  norm_num

theorem pOf_nonneg {a : EReal} (h : 0 ≤ a) : 0 ≤ pOf a := by
  unfold pOf
  rw [fac_eq]
  exact mul_nonneg h (EReal.coe_nonneg.2 (by positivity))

/-- Within bf16's range the field stays away from the top, but for infinity. -/
theorem field_range (a : EReal) (h0 : 0 ≤ a) (h : a ≤ Ideal.ofBits .bf16 0x7F7F#16 ∨ a = ⊤) :
    field (pOf a) ≤ 240 ∨ field (pOf a) = 255 := by
  obtain ⟨-, h2, h3, h4⟩ := fieldWord_eq (pOf a) (pOf_nonneg h0)
  generalize hp : pOf a = p at h2 h3 h4 ⊢
  generalize field p = e at h2 h3 h4 ⊢
  rcases h with h | h
  · rw [max_eq] at h
    by_contra hc
    have he : 241 ≤ e := by omega
    have hlt : p < pw 241 := by
      rw [← hp, pOf, fac_eq, pw_mid (by norm_num) (by norm_num)]
      induction a using EReal.rec with
      | bot => exact absurd h0 (by simp)
      | top => exact absurd h (not_le.2 (EReal.coe_lt_top _))
      | coe r =>
        rw [← EReal.coe_mul]
        refine EReal.coe_lt_coe_iff.2 ?_
        have hr := EReal.coe_le_coe_iff.1 h
        calc r * (9586981 * 2 ^ (-39 : ℤ)) ≤ (255 * 2 ^ (120 : ℤ)) * (9586981 * 2 ^ (-39 : ℤ)) :=
              mul_le_mul_of_nonneg_right hr (by positivity)
          _ < 2 ^ (((241 : ℕ) : ℤ) - 127) := by norm_num
    exact absurd (((pw_mono he h2).trans h3).trans_lt hlt) (lt_irrefl _)
  · right
    by_contra hc
    have hpt : p = ⊤ := by
      rw [← hp, h, pOf, fac_eq]
      exact EReal.top_mul_coe_of_pos (by positivity)
    have hlt := h4.resolve_left hc
    rw [hpt] at hlt
    exact absurd hlt not_top_lt

/-- A block of bf16 numbers has a byte between 1 and 241. -/
theorem scaleN_range (g : Fin 32 → EReal) (h : ∀ k, Good (g k)) : scaleN g ≤ 241 := by
  have hf := field_range (amax g) (amax_nonneg g) (amax_good g h)
  unfold scaleN byteN
  generalize field (pOf (amax g)) = e at hf ⊢
  split_ifs <;> omega

/-- Any block's byte is a byte. -/
theorem scaleN_lt (g : Fin 32 → EReal) : scaleN g < 256 := by
  obtain ⟨-, h2, -, -⟩ := fieldWord_eq (pOf (amax g)) (pOf_nonneg (amax_nonneg g))
  unfold scaleN byteN
  generalize field (pOf (amax g)) = e at h2 ⊢
  split_ifs <;> omega

/-! ## The kernel's words -/

/-- The kernel's scale byte of a block. -/
theorem kByte (g : Fin 32 → EReal) : byteW (pOf (amax g)) = BitVec.ofNat 32 (scaleN g) :=
  byteW_eq _ (pOf_nonneg (amax_nonneg g))

/-- Either half of the scale's word is the scale. -/
theorem kScale (g : Fin 32 → EReal) (h : Fin 2) :
    Ideal.ofBits .bf16 ((pairW (BitVec.ofNat 32 (scaleN g))).extractLsb' (16 * h.val) 16) = pw (scaleN g) := by
  have hx : ∀ (e : Fin 256) (h : Fin 2), (pairW (BitVec.ofNat 32 e.val)).extractLsb' (16 * h.val) 16
      = BitVec.ofNat 16 (e.val * 2 ^ 7) := by decide +kernel
  have := hx ⟨scaleN g, scaleN_lt g⟩ h
  simp only at this
  rw [this]
  exact ofBits_bf16_field _ (scaleN_lt g)

/-- Either half of the inverse scale's word is the inverse scale. -/
theorem kInv (g : Fin 32 → EReal) (hg : ∀ k, Good (g k)) (h : Fin 2) :
    Ideal.ofBits .bf16 ((IntOp.subi 2130738944#32 (pairW (BitVec.ofNat 32 (scaleN g)))).extractLsb' (16 * h.val) 16)
      = pw (254 - scaleN g) := by
  have hx : ∀ (e : Fin 255) (h : Fin 2), (IntOp.subi 2130738944#32 (pairW (BitVec.ofNat 32 e.val))).extractLsb' (16 * h.val) 16
      = BitVec.ofNat 16 ((254 - e.val) * 2 ^ 7) := by decide +kernel
  have hr := scaleN_range g hg
  have := hx ⟨scaleN g, by omega⟩ h
  simp only at this
  rw [this]
  exact ofBits_bf16_field _ (by omega)

/-- A scale byte moved into an f32's exponent field. -/
theorem kShift (s : BitVec 8) :
    Ideal.ofBits .f32 (IntOp.shli .vector (s.setWidth 32) 23#32) = pw s.toNat := by
  have hx : ∀ s : BitVec 8, IntOp.shli .vector (s.setWidth 32) 23#32 = BitVec.ofNat 32 (s.toNat * 2 ^ 23) := by decide +kernel
  rw [hx]
  exact ofBits_f32_field _ s.isLt

/-- A small whole number survives the way through f32 and back to a byte. -/
theorem kThrough (e : ℕ) (he : e < 256) :
    (Ideal.fptosi 32 (FloatOps.sitofp (F := Ideal) .f32 (BitVec.ofNat 32 e))).setWidth 8 = BitVec.ofNat 8 e := by
  have h1 : (BitVec.ofNat 32 e).toInt = e := by
    rw [BitVec.toInt_ofNat']
    rw [Int.bmod_eq_of_le] <;> omega
  have h2 : FloatOps.sitofp (F := Ideal) .f32 (BitVec.ofNat 32 e) = (((e : ℤ) : ℝ) : EReal) := by
    change (((BitVec.ofNat 32 e).toInt : ℝ) : EReal) = _
    rw [h1]
  rw [h2]
  unfold Ideal.fptosi
  rw [Ideal.toIntClamped_coe]
  have hc : max (-((2 ^ (32 - 1) : ℕ) : ℤ)) (min (((2 ^ (32 - 1) : ℕ) : ℤ) - 1)
      (if 0 ≤ ((e : ℤ) : ℝ) then ⌊((e : ℤ) : ℝ)⌋ else ⌈((e : ℤ) : ℝ)⌉)) = e := by
    rw [Int.floor_intCast, Int.ceil_intCast, ite_self]
    norm_num
    omega
  rw [hc]
  apply BitVec.eq_of_toNat_eq
  simp [BitVec.toNat_setWidth, BitVec.toNat_ofInt]

/-! ## The reference's words -/

/-- `ldexp(1, e - 127)` is what field `e` denotes. -/
theorem ldexpW_field (e : ℕ) (he : e < 256) : ldexpW (IntOp.subi (BitVec.ofNat 32 e) 127#32) = pw e := by
  have hx : ∀ e : Fin 256, IntOp.cmpi .slt (IntOp.subi (BitVec.ofNat 32 e.val) 127#32) 4294967170#32 = BitVec.ofBool (decide (e.val = 0))
      ∧ IntOp.cmpi .sgt (IntOp.subi (BitVec.ofNat 32 e.val) 127#32) 127#32 = BitVec.ofBool (decide (e.val = 255))
      ∧ (IntOp.subi (BitVec.ofNat 32 e.val) 127#32).toInt = (e.val : ℤ) - 127 := by decide +kernel
  obtain ⟨h1, h2, h3⟩ := hx ⟨e, he⟩
  simp only at h1 h2 h3
  have hz : FloatOps.ofBits (F := Ideal) .f32 0x00000000#32 = pw 0 := ofBits_f32_field 0 (by norm_num)
  have hinf : FloatOps.ofBits (F := Ideal) .f32 0x7F800000#32 = pw 255 := ofBits_f32_field 255 (by norm_num)
  unfold ldexpW
  rw [h1, h2, hz, hinf]
  by_cases h0 : e = 0
  · subst h0; rfl
  · by_cases h255 : e = 255
    · subst h255; rfl
    · rw [decide_eq_false h0, decide_eq_false h255]
      change Ideal.exp2 ((((IntOp.subi (BitVec.ofNat 32 e) 127#32).toInt : ℤ) : ℝ) : EReal) = _
      rw [h3, pw_mid h0 h255]
      rw [Ideal.exp2_coe]
      exact congrArg _ (Real.rpow_intCast 2 ((e : ℤ) - 127))

/-- The reference's exponent of a block is the byte less 127. -/
theorem rExpo (g : Fin 32 → EReal) (hg : ∀ k, Good (g k)) :
    expoW (pOf (amax g)) = IntOp.subi (BitVec.ofNat 32 (scaleN g)) 127#32 := by
  have hf := field_range (amax g) (amax_nonneg g) (amax_good g hg)
  have h := expoW_eq (pOf (amax g)) (pOf_nonneg (amax_nonneg g))
  unfold scaleN byteN
  generalize field (pOf (amax g)) = e at hf h ⊢
  rw [h (by omega)]
  have hx : ∀ e : Fin 256, (if e.val = 0 ∨ e.val = 255 then 0#32 else IntOp.addi (BitVec.ofInt 32 ((e.val : ℤ) - 127)) 1#32)
      = IntOp.subi (BitVec.ofNat 32 (if e.val = 0 ∨ e.val = 255 then 127 else e.val + 1)) 127#32 := by decide +kernel
  exact hx ⟨e, by omega⟩

/-- The reference's scale byte. -/
theorem rByte (g : Fin 32 → EReal) (hg : ∀ k, Good (g k)) :
    (IntOp.addi (expoW (pOf (amax g))) 127#32).setWidth 8 = BitVec.ofNat 8 (scaleN g) := by
  have hx : ∀ e : Fin 256, (IntOp.addi (IntOp.subi (BitVec.ofNat 32 e.val) 127#32) 127#32).setWidth 8 = BitVec.ofNat 8 e.val := by
    decide +kernel
  rw [rExpo g hg]
  have hlt := scaleN_lt g
  generalize scaleN g = e at hlt ⊢
  exact hx ⟨e, hlt⟩

/-- The reference's scaling of an element. -/
theorem rInv (g : Fin 32 → EReal) (hg : ∀ k, Good (g k)) :
    ldexpW (IntOp.subi 0#32 (expoW (pOf (amax g)))) = pw (254 - scaleN g) := by
  have hx : ∀ e : Fin 255, IntOp.subi 0#32 (IntOp.subi (BitVec.ofNat 32 e.val) 127#32)
      = IntOp.subi (BitVec.ofNat 32 (254 - e.val)) 127#32 := by decide +kernel
  have hr := scaleN_range g hg
  rw [rExpo g hg]
  generalize scaleN g = e at hr ⊢
  have := hx ⟨e, by omega⟩
  simp only at this
  rw [this]
  exact ldexpW_field _ (by omega)

/-- The reference's scale, read back from a byte. -/
theorem rScale (s : BitVec 8) : ldexpW (IntOp.subi (s.setWidth 32) 127#32) = pw s.toNat := by
  have hx : ∀ s : BitVec 8, s.setWidth 32 = BitVec.ofNat 32 s.toNat := by decide +kernel
  rw [hx]
  exact ldexpW_field _ s.isLt

/-- … and from the byte of a block. -/
theorem rScaleN (g : Fin 32 → EReal) : pw (BitVec.ofNat 8 (scaleN g)).toNat = pw (scaleN g) := by
  rw [BitVec.toNat_ofNat, Nat.mod_eq_of_lt (scaleN_lt g)]

end Cert.Mx
-- ==== Proof.Prec.lean ====
/- What the precondition says of `dy`: every entry lies in the range of bfloat16 or is an infinity. -/
module

public import proofs.«01_k».proof.Proof.Scale
public import proofs.«01_k».proof.Pre_bf16_range
public import Idealize.ShloMosaic.Lib.ReduceAll
public import Idealize.ShloMosaic.Lib.Pointwise.Select

@[expose] public section

noncomputable section

namespace Cert.Prec

open Idealize.ShloMosaic Cert.Mx Cert.Pre_bf16_range

/-- The infinity's bits read as the infinity. -/
theorem inf_bf16 : Ideal.ofBits .bf16 0x7F80#16 = ⊤ := (ofBits_bf16_field 255 (by norm_num)).trans (by simp [pw])

/-- The precondition gives each entry of `dy` its range. -/
theorem good [Facts] (a0 : FVec Ideal S32x512x8192 .bf16) (a1 : FVec Ideal S32x512x2048 .fp8e4m3) (a2 : IVec S32x16x2048 8)
    (a3 : FVec Ideal S8192x2048 .fp8e4m3) (a4 : IVec S256x2048 8) (a5 : FVec Ideal S8192x2048 .f32)
    (h : fn (F := Ideal) a0 a1 a2 a3 a4 a5 = fun _ => 1#1) (i : S32x512x8192.Idx) : Good (a0 i) := by
  haveI : Subsingleton S_.Idx := ⟨fun x y => funext fun d => Fin.elim0 d⟩
  have e := Host.reduce_andi_all _ _ _ _ (fun d => Fin.elim0 d) (congrFun h (fun d => Fin.elim0 d)) i
  rcases IntOp.ori_eq_one.1 e with h1 | h1
  · exact Or.inl ((Ideal.cmp_ole_eq_one _ _).1 h1)
  · exact Or.inr (((Ideal.cmp_oeq_eq_one _ _).1 h1).trans inf_bf16)

end Cert.Prec
-- ==== Proof.KernelRun.lean ====
/- What a run of the kernel leaves: each result array at the last boundary's contents, every argument array as launched. -/
module

public import proofs.«01_k».proof.Proof.Gen.KernelIdeal.Frame

@[expose] public section

set_option maxRecDepth 16384

noncomputable section

namespace Cert.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

set_option backward.isDefEq.respectTransparency.types false in
/-- The run of the whole program: every result array ends at the last boundary's contents. -/
theorem run : θ_run defs (onTc (τ := τ) (main (F := F))) ⟨m, fun _ => 0, ρ⟩ (fun r => ∀ c : Dev nD,
      r.2.mem ((c.tc : Thread nD τ).loc main_v5) = W5 m ρ c (Proc.devRef .tc main_v5)
      ∧ r.2.mem ((c.tc : Thread nD τ).loc main_v4_0) = W5 m ρ c (Proc.devRef .tc main_v4_0)
      ∧ r.2.mem ((c.tc : Thread nD τ).loc main_v6) = W5 m ρ c (Proc.devRef .tc main_v6)
      ∧ r.2.mem ((c.tc : Thread nD τ).loc main_v7) = W5 m ρ c (Proc.devRef .tc main_v7)
      ∧ r.2.mem ((c.tc : Thread nD τ).loc main_v8) = W5 m ρ c (Proc.devRef .tc main_v8)
      ∧ r.2.mem ((c.tc : Thread nD τ).loc main_v4_2) = W5 m ρ c (Proc.devRef .tc main_v4_2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => fun c =>
      ⟨h c _ (mem_uc main_v5 (by decide)),
       h c _ (mem_uc main_v4_0 (by decide)),
       h c _ (mem_uc main_v6 (by decide)),
       h c _ (mem_uc main_v7 (by decide)),
       h c _ (mem_uc main_v8 (by decide)),
       h c _ (mem_uc main_v4_2 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelRun
-- ==== Proof.Blocks.lean ====
/- The layout operations of the quantiser read at an index, for any number of blocks and columns: rows of 32-bit words
   against rows of bf16, the maximum over the 32 rows of a block, and the words of a scale spread over its block. -/
module

public import proofs.«01_k».proof.Proof.Scale
public import Idealize.ShloMosaic.Lib.Pipeline.Value
public import Idealize.ShloMosaic.Lib.ValueIdx
public import Idealize.ShloMosaic.Lib.BitcastPair
public import Idealize.ShloMosaic.Lib.Bf16PairInverse
public import Idealize.ShloMosaic.PureOps.Ideal.Laws

@[expose] public section

noncomputable section

namespace Cert.Mx

open Idealize.ShloMosaic Idealize.ShloMosaic.ValueIdx

section Layout
variable {α : Type} {B C R R2 R4 : ℕ}

/-- Rows `[16 B]` cast to `[B, 2, 8]`. -/
theorem cast_split (x : (⟨2, ![R2, C]⟩ : Shape).Idx → α) (h : (⟨2, ![R2, C]⟩ : Shape).ShapeCasts ⟨4, ![B, 2, 8, C]⟩)
    (b : Fin B) (u : Fin 2) (q : Fin 8) (c : Fin C) (r : Fin R2) (hr : r.val = 16 * b.val + 8 * u.val + q.val) :
    shapeCast ⟨4, ![B, 2, 8, C]⟩ x h (ix4 b u q c) = x (ix2 r c) :=
  shapeCast_apply x h _ _ (by
    rw [Shape.rowMajor_val_four, Shape.rowMajor_val_two]
    show r.val * C + c.val = ((b.val * 2 + u.val) * 8 + q.val) * C + c.val
    rw [hr]; ring)

/-- `[B, 2, 8]` cast back to rows. -/
theorem cast_join (x : (⟨4, ![B, 2, 8, C]⟩ : Shape).Idx → α) (h : (⟨4, ![B, 2, 8, C]⟩ : Shape).ShapeCasts ⟨2, ![R2, C]⟩)
    (b : Fin B) (u : Fin 2) (q : Fin 8) (c : Fin C) (r : Fin R2) (hr : r.val = 16 * b.val + 8 * u.val + q.val) :
    shapeCast ⟨2, ![R2, C]⟩ x h (ix2 r c) = x (ix4 b u q c) :=
  shapeCast_apply x h _ _ (by
    rw [Shape.rowMajor_val_four, Shape.rowMajor_val_two]
    show ((b.val * 2 + u.val) * 8 + q.val) * C + c.val = r.val * C + c.val
    rw [hr]; ring)

/-- A unit axis dropped. -/
theorem cast_drop {n : ℕ} (x : (⟨4, ![B, 1, n, C]⟩ : Shape).Idx → α) (h : (⟨4, ![B, 1, n, C]⟩ : Shape).ShapeCasts ⟨3, ![B, n, C]⟩)
    (b : Fin B) (q : Fin n) (c : Fin C) :
    shapeCast ⟨3, ![B, n, C]⟩ x h (ix3 b q c) = x (ix4 b 0 q c) :=
  shapeCast_apply x h _ _ (by
    rw [Shape.rowMajor_val_four, Shape.rowMajor_val_three]
    show ((b.val * 1 + 0) * n + q.val) * C + c.val = (b.val * n + q.val) * C + c.val
    ring)

/-- A unit axis added. -/
theorem cast_add {n : ℕ} (x : (⟨3, ![B, n, C]⟩ : Shape).Idx → α) (h : (⟨3, ![B, n, C]⟩ : Shape).ShapeCasts ⟨4, ![B, 1, n, C]⟩)
    (b : Fin B) (q : Fin n) (c : Fin C) :
    shapeCast ⟨4, ![B, 1, n, C]⟩ x h (ix4 b 0 q c) = x (ix3 b q c) :=
  shapeCast_apply x h _ _ (by
    rw [Shape.rowMajor_val_four, Shape.rowMajor_val_three]
    show (b.val * n + q.val) * C + c.val = ((b.val * 1 + 0) * n + q.val) * C + c.val
    ring)

/-- `[B, n]` cast to rows. -/
theorem cast_rows {n : ℕ} (x : (⟨3, ![B, n, C]⟩ : Shape).Idx → α) (h : (⟨3, ![B, n, C]⟩ : Shape).ShapeCasts ⟨2, ![R4, C]⟩)
    (b : Fin B) (q : Fin n) (c : Fin C) (r : Fin R4) (hr : r.val = n * b.val + q.val) :
    shapeCast ⟨2, ![R4, C]⟩ x h (ix2 r c) = x (ix3 b q c) :=
  shapeCast_apply x h _ _ (by
    rw [Shape.rowMajor_val_three, Shape.rowMajor_val_two]
    show (b.val * n + q.val) * C + c.val = r.val * C + c.val
    rw [hr]; ring)

/-- Rows cast to `[B, n]`. -/
theorem cast_unrows {n : ℕ} (x : (⟨2, ![R4, C]⟩ : Shape).Idx → α) (h : (⟨2, ![R4, C]⟩ : Shape).ShapeCasts ⟨3, ![B, n, C]⟩)
    (b : Fin B) (q : Fin n) (c : Fin C) (r : Fin R4) (hr : r.val = n * b.val + q.val) :
    shapeCast ⟨3, ![B, n, C]⟩ x h (ix3 b q c) = x (ix2 r c) :=
  shapeCast_apply x h _ _ (by
    rw [Shape.rowMajor_val_three, Shape.rowMajor_val_two]
    show r.val * C + c.val = (b.val * n + q.val) * C + c.val
    rw [hr]; ring)

/-- A unit middle axis added to a matrix. -/
theorem cast_mid (x : (⟨2, ![B, C]⟩ : Shape).Idx → α) (h : (⟨2, ![B, C]⟩ : Shape).ShapeCasts ⟨3, ![B, 1, C]⟩)
    (b : Fin B) (c : Fin C) :
    shapeCast ⟨3, ![B, 1, C]⟩ x h (ix3 b 0 c) = x (ix2 b c) :=
  shapeCast_apply x h _ _ (by
    rw [Shape.rowMajor_val_three, Shape.rowMajor_val_two]
    show b.val * C + c.val = (b.val * 1 + 0) * C + c.val
    ring)

/-- A unit middle axis dropped. -/
theorem cast_unmid (x : (⟨3, ![B, 1, C]⟩ : Shape).Idx → α) (h : (⟨3, ![B, 1, C]⟩ : Shape).ShapeCasts ⟨2, ![B, C]⟩)
    (b : Fin B) (c : Fin C) :
    shapeCast ⟨2, ![B, C]⟩ x h (ix2 b c) = x (ix3 b 0 c) :=
  shapeCast_apply x h _ _ (by
    rw [Shape.rowMajor_val_three, Shape.rowMajor_val_two]
    show (b.val * 1 + 0) * C + c.val = b.val * C + c.val
    ring)

/-- A unit leading axis added to a matrix. -/
theorem cast_lead (x : (⟨2, ![B, C]⟩ : Shape).Idx → α) (h : (⟨2, ![B, C]⟩ : Shape).ShapeCasts ⟨3, ![1, B, C]⟩)
    (b : Fin B) (c : Fin C) :
    shapeCast ⟨3, ![1, B, C]⟩ x h (ix3 0 b c) = x (ix2 b c) :=
  shapeCast_apply x h _ _ (by
    rw [Shape.rowMajor_val_three, Shape.rowMajor_val_two]
    show b.val * C + c.val = (0 * B + b.val) * C + c.val
    ring)

/-- A unit leading axis dropped. -/
theorem cast_unlead (x : (⟨3, ![1, B, C]⟩ : Shape).Idx → α) (h : (⟨3, ![1, B, C]⟩ : Shape).ShapeCasts ⟨2, ![B, C]⟩)
    (b : Fin B) (c : Fin C) :
    shapeCast ⟨2, ![B, C]⟩ x h (ix2 b c) = x (ix3 0 b c) :=
  shapeCast_apply x h _ _ (by
    rw [Shape.rowMajor_val_three, Shape.rowMajor_val_two]
    show (0 * B + b.val) * C + c.val = b.val * C + c.val
    ring)

/-- A cast to the same shape changes nothing. -/
theorem cast_same {s : Shape} (x : s.Idx → α) (h : s.ShapeCasts s) (j : s.Idx) : shapeCast s x h j = x j :=
  shapeCast_apply x h _ _ rfl

/-- A broadcast along a unit middle axis. -/
theorem bcast_mid {n : ℕ} (x : (⟨3, ![B, 1, C]⟩ : Shape).Idx → α) (h : (⟨3, ![B, 1, C]⟩ : Shape).Broadcasts ⟨3, ![B, n, C]⟩)
    (b : Fin B) (q : Fin n) (c : Fin C) :
    broadcastTo ⟨3, ![B, n, C]⟩ x h (ix3 b q c) = x (ix3 b 0 c) :=
  broadcastTo_apply x h _ _ (fun a => by
    match a with
    | ⟨0, _⟩ =>
      show b.val = if B = 1 then 0 else b.val
      split_ifs with h1
      · have := b.isLt; omega
      · rfl
    | ⟨1, _⟩ => show (0 : ℕ) = if 1 = 1 then 0 else q.val; exact (if_pos rfl).symm
    | ⟨2, _⟩ =>
      show c.val = if C = 1 then 0 else c.val
      split_ifs with h1
      · have := c.isLt; omega
      · rfl)

/-- A broadcast along a unit second axis of four. -/
theorem bcast_four {m n : ℕ} (x : (⟨4, ![B, 1, n, C]⟩ : Shape).Idx → α) (h : (⟨4, ![B, 1, n, C]⟩ : Shape).Broadcasts ⟨4, ![B, m, n, C]⟩)
    (b : Fin B) (u : Fin m) (q : Fin n) (c : Fin C) :
    broadcastTo ⟨4, ![B, m, n, C]⟩ x h (ix4 b u q c) = x (ix4 b 0 q c) :=
  broadcastTo_apply x h _ _ (fun a => by
    match a with
    | ⟨0, _⟩ =>
      show b.val = if B = 1 then 0 else b.val
      split_ifs with h1
      · have := b.isLt; omega
      · rfl
    | ⟨1, _⟩ => show (0 : ℕ) = if 1 = 1 then 0 else u.val; exact (if_pos rfl).symm
    | ⟨2, _⟩ =>
      show q.val = if n = 1 then 0 else q.val
      split_ifs with h1
      · have := q.isLt; omega
      · rfl
    | ⟨3, _⟩ =>
      show c.val = if C = 1 then 0 else c.val
      split_ifs with h1
      · have := c.isLt; omega
      · rfl)

/-- The rows of one parity, at an index. -/
theorem parity_apply (p : Fin 2) (y : (⟨2, ![R, C]⟩ : Shape).Idx → α) (h : (⟨2, ![R, C]⟩ : Shape).Bitcasts 16 ⟨2, ![R2, C]⟩ 32)
    (r : Fin R2) (c : Fin C) (i : Fin R) (hi : i.val = 2 * r.val + p.val) :
    rowsOfParity p ⟨2, ![R2, C]⟩ y h (ix2 r c) = y (ix2 i c) := by
  unfold rowsOfParity
  refine congrArg y (funext fun a => Fin.ext ?_)
  match a with
  | ⟨0, _⟩ => exact hi.symm
  | ⟨1, _⟩ => rfl

/-- One 8-row half of one parity of a block. -/
theorem half_apply (p u : Fin 2) (off : Fin 4 → ℕ) (hoff : off = ![0, u.val, 0, 0]) (y : (⟨2, ![R, C]⟩ : Shape).Idx → α)
    (h1 : (⟨2, ![R, C]⟩ : Shape).Bitcasts 16 ⟨2, ![R2, C]⟩ 32)
    (h2 : (⟨2, ![R2, C]⟩ : Shape).ShapeCasts ⟨4, ![B, 2, 8, C]⟩)
    (h3 : (⟨4, ![B, 2, 8, C]⟩ : Shape).Slices off ⟨4, ![B, 1, 8, C]⟩)
    (h4 : (⟨4, ![B, 1, 8, C]⟩ : Shape).ShapeCasts ⟨3, ![B, 8, C]⟩)
    (h5 : (⟨3, ![B, 8, C]⟩ : Shape).ShapeCasts ⟨2, ![R4, C]⟩) (hR2 : R2 = 16 * B)
    (b : Fin B) (q : Fin 8) (c : Fin C) (r : Fin R4) (hr : r.val = 8 * b.val + q.val)
    (i : Fin R) (hi : i.val = 32 * b.val + 16 * u.val + 2 * q.val + p.val) :
    shapeCast ⟨2, ![R4, C]⟩ (shapeCast ⟨3, ![B, 8, C]⟩ (extractStridedSlice ⟨4, ![B, 1, 8, C]⟩ off
      (shapeCast ⟨4, ![B, 2, 8, C]⟩ (rowsOfParity p ⟨2, ![R2, C]⟩ y h1) h2) h3) h4) h5 (ix2 r c) = y (ix2 i c) := by
  subst hoff
  rw [cast_rows _ h5 b q c r hr, cast_drop]
  refine (extractStridedSlice_apply _ _ h3 _ (ix4 b u q c) (fun a => ?_)).trans ?_
  · match a with
    | ⟨0, _⟩ => show b.val = 0 + b.val; omega
    | ⟨1, _⟩ => show u.val = u.val + 0; omega
    | ⟨2, _⟩ => show q.val = 0 + q.val; omega
    | ⟨3, _⟩ => show c.val = 0 + c.val; omega
  · rw [cast_split _ h2 b u q c ⟨16 * b.val + 8 * u.val + q.val, by omega⟩ rfl]
    exact parity_apply p y h1 _ c i (by rw [hi]; show _ = 2 * (16 * b.val + 8 * u.val + q.val) + p.val; ring)

/-- Words spread over the sixteen word rows of their block, read as halves: row `i` of the block's column sees the half of
    its parity of word `(i / 2) % 8`. -/
theorem spread_apply (z : (⟨3, ![B, 8, C]⟩ : Shape).Idx → BitVec 32) (g : BitVec 32 → BitVec 32)
    (h1 : (⟨3, ![B, 8, C]⟩ : Shape).ShapeCasts ⟨4, ![B, 1, 8, C]⟩)
    (h2 : (⟨4, ![B, 1, 8, C]⟩ : Shape).ShapeCasts ⟨4, ![B, 1, 8, C]⟩)
    (h3 : (⟨4, ![B, 1, 8, C]⟩ : Shape).Broadcasts ⟨4, ![B, 2, 8, C]⟩)
    (h4 : (⟨4, ![B, 2, 8, C]⟩ : Shape).ShapeCasts ⟨2, ![R2, C]⟩)
    (h5 : (⟨2, ![R2, C]⟩ : Shape).Bitcasts 32 ⟨2, ![R, C]⟩ 16) (hR2 : R2 = 16 * B) (hR : R = 32 * B)
    (i : Fin R) (c : Fin C) (b : Fin B) (hb : b.val = i.val / 32) (q : Fin 8) (hq : q.val = i.val / 2 % 8) (p : Fin 2)
    (hp : p.val = i.val % 2) :
    bitcast ⟨2, ![R, C]⟩ 16 (fun j => g (shapeCast ⟨2, ![R2, C]⟩ (broadcastTo ⟨4, ![B, 2, 8, C]⟩
      (shapeCast ⟨4, ![B, 1, 8, C]⟩ (shapeCast ⟨4, ![B, 1, 8, C]⟩ z h1) h2) h3) h4 j)) h5 (ix2 i c)
      = (g (z (ix3 b q c))).extractLsb' (16 * p.val) 16 := by
  rw [bitcast_32_16]
  have hrow : (⟨2, ![R, C]⟩ : Shape).row (ix2 i c) = i.val := rfl
  have hidx : ∀ hp, h5.srcIdx (ix2 i c) ((⟨2, ![R, C]⟩ : Shape).row (ix2 i c) / 2) hp
      = ix2 (⟨i.val / 2, by have := i.isLt; omega⟩ : Fin R2) c := by
    intro hp
    funext a; apply Fin.ext
    match a with
    | ⟨0, _⟩ => rfl
    | ⟨1, _⟩ => rfl
  rw [hidx, hrow, hp]
  congr 2
  rw [cast_join _ h4 b ⟨i.val / 16 % 2, by omega⟩ q c _ (by
    show i.val / 2 = 16 * b.val + 8 * (i.val / 16 % 2) + q.val
    rw [hb, hq]; omega), bcast_four, cast_same, cast_add]

end Layout

/-! ## The maximum over a block -/

/-- The -∞ a maximum starts from. -/
theorem neg_inf : Ideal.ofBits .f32 0xFF800000#32 = ⊥ := by
  have h1 : ((0xFF800000#32).extractLsb' 31 1 == 1#1) = true := by decide
  have h2 : ((0xFF800000#32).extractLsb' 23 8).toNat = 255 := by decide
  have h3 : ((0xFF800000#32).extractLsb' 0 23).toNat = 0 := by decide
  simp only [Ideal.ofBits, Ideal.ieee]
  rw [show 8 + 23 = 31 from rfl, h1, h2, h3]
  norm_num

/-- A fold of `max` from -∞ is the supremum. -/
theorem fold_sup {n : ℕ} (f : Fin n → EReal) : (Finset.univ : Finset (Fin n)).fold max (Ideal.ofBits .f32 0xFF800000#32) f
    = Finset.univ.sup f := by
  rw [neg_inf]; rfl

/-- The supremum over a block's 32 rows, in the kernel's order: the two parities and the two 8-row halves first. -/
theorem sup_order (f : Fin 32 → EReal) (k00 k01 k10 k11 : Fin 8 → Fin 32) (h00 : ∀ q, (k00 q).val = 2 * q.val)
    (h01 : ∀ q, (k01 q).val = 2 * q.val + 1) (h10 : ∀ q, (k10 q).val = 16 + 2 * q.val) (h11 : ∀ q, (k11 q).val = 16 + 2 * q.val + 1) :
    (Finset.univ.sup fun q : Fin 8 => max (max (f (k01 q)) (f (k11 q))) (max (f (k00 q)) (f (k10 q)))) = Finset.univ.sup f := by
  refine le_antisymm (Finset.sup_le fun q _ => ?_) (Finset.sup_le fun k _ => ?_)
  · exact max_le (max_le (Finset.le_sup (Finset.mem_univ _)) (Finset.le_sup (Finset.mem_univ _)))
      (max_le (Finset.le_sup (Finset.mem_univ _)) (Finset.le_sup (Finset.mem_univ _)))
  · have hle := Finset.le_sup (f := fun q : Fin 8 => max (max (f (k01 q)) (f (k11 q))) (max (f (k00 q)) (f (k10 q))))
      (Finset.mem_univ (⟨k.val % 16 / 2, by omega⟩ : Fin 8))
    refine le_trans ?_ hle
    have hk := k.isLt
    by_cases hp : k.val % 2 = 0 <;> by_cases hu : k.val < 16
    · have e : k00 ⟨k.val % 16 / 2, by omega⟩ = k := Fin.ext (by rw [h00]; show 2 * (k.val % 16 / 2) = k.val; omega)
      show f k ≤ max (max _ _) (max (f (k00 ⟨k.val % 16 / 2, by omega⟩)) _)
      rw [e]; exact le_max_of_le_right (le_max_left _ _)
    · have e : k10 ⟨k.val % 16 / 2, by omega⟩ = k := Fin.ext (by rw [h10]; show 16 + 2 * (k.val % 16 / 2) = k.val; omega)
      show f k ≤ max (max _ _) (max _ (f (k10 ⟨k.val % 16 / 2, by omega⟩)))
      rw [e]; exact le_max_of_le_right (le_max_right _ _)
    · have e : k01 ⟨k.val % 16 / 2, by omega⟩ = k := Fin.ext (by rw [h01]; show 2 * (k.val % 16 / 2) + 1 = k.val; omega)
      show f k ≤ max (max (f (k01 ⟨k.val % 16 / 2, by omega⟩)) _) (max _ _)
      rw [e]; exact le_max_of_le_left (le_max_left _ _)
    · have e : k11 ⟨k.val % 16 / 2, by omega⟩ = k := Fin.ext (by rw [h11]; show 16 + 2 * (k.val % 16 / 2) + 1 = k.val; omega)
      show f k ≤ max (max _ (f (k11 ⟨k.val % 16 / 2, by omega⟩))) (max _ _)
      rw [e]; exact le_max_of_le_left (le_max_right _ _)

section Chain
variable {B C R R2 R4 : ℕ}

/-- The maximum over axis 1 of three, at an index. -/
theorem reduce_mid {n : ℕ} (x : FVec Ideal ⟨3, ![B, n, C]⟩ .f32) (h : (⟨3, ![B, n, C]⟩ : Shape).Reduces [1] ⟨2, ![B, C]⟩)
    (hφ : FKind.Formats .f32) (hacc : 0xFF800000#32 = FKind.maximumf.neutral .f32 hφ) (b : Fin B) (c : Fin C) :
    multiReduction (F := Ideal) .maximumf [1] ⟨2, ![B, C]⟩ x 0xFF800000#32 h hφ hacc (ix2 b c)
      = Finset.univ.sup fun q : Fin n => x (ix3 b q c) := by
  rw [Ideal.multiReduction_maximumf_single]
  refine (fold_sup _).trans (congrArg _ (funext fun q => congrArg x (funext fun a => Fin.ext ?_)))
  match a with
  | ⟨0, _⟩ => rfl
  | ⟨1, _⟩ => rfl
  | ⟨2, _⟩ => rfl

/-- THE BLOCK MAXIMUM as the kernel takes it: through words of two bf16 rows, halves of eight word rows, and a maximum over
    eight, given back to the eight rows. -/
theorem chain_max (y : FVec Ideal ⟨2, ![R, C]⟩ .bf16)
    (h1 : (⟨2, ![R, C]⟩ : Shape).Bitcasts 16 ⟨2, ![R2, C]⟩ 32)
    (h2 : (⟨2, ![R2, C]⟩ : Shape).ShapeCasts ⟨4, ![B, 2, 8, C]⟩)
    (h3 : (⟨4, ![B, 2, 8, C]⟩ : Shape).Slices ![0, 0, 0, 0] ⟨4, ![B, 1, 8, C]⟩)
    (h3' : (⟨4, ![B, 2, 8, C]⟩ : Shape).Slices ![0, 1, 0, 0] ⟨4, ![B, 1, 8, C]⟩)
    (h4 : (⟨4, ![B, 1, 8, C]⟩ : Shape).ShapeCasts ⟨3, ![B, 8, C]⟩)
    (h5 : (⟨3, ![B, 8, C]⟩ : Shape).ShapeCasts ⟨2, ![R4, C]⟩)
    (h6 : (⟨2, ![R2, C]⟩ : Shape).Bitcasts 16 ⟨2, ![R4, C]⟩ 32)
    (h7 : (⟨2, ![R4, C]⟩ : Shape).ShapeCasts ⟨3, ![B, 8, C]⟩)
    (h8 : (⟨3, ![B, 8, C]⟩ : Shape).Reduces [1] ⟨2, ![B, C]⟩)
    (hφ : FKind.Formats .f32) (hacc : 0xFF800000#32 = FKind.maximumf.neutral .f32 hφ)
    (h9 : (⟨2, ![B, C]⟩ : Shape).ShapeCasts ⟨3, ![B, 1, C]⟩)
    (h10 : (⟨3, ![B, 1, C]⟩ : Shape).ShapeCasts ⟨3, ![B, 1, C]⟩)
    (h11 : (⟨3, ![B, 1, C]⟩ : Shape).Broadcasts ⟨3, ![B, 8, C]⟩)
    (hb : FTy.bf16.bits < FTy.f32.bits) (hR2 : R2 = 16 * B) (hR4 : R4 = 8 * B) (hR : R = 32 * B)
    (r : Fin R4) (c : Fin C) (b : Fin B) (q : Fin 8) (hr : r.val = 8 * b.val + q.val) :
    let half := fun (p : Fin 2) (off : Fin 4 → ℕ) (h3 : (⟨4, ![B, 2, 8, C]⟩ : Shape).Slices off ⟨4, ![B, 1, 8, C]⟩) =>
      shapeCast ⟨2, ![R4, C]⟩ (shapeCast ⟨3, ![B, 8, C]⟩ (extractStridedSlice ⟨4, ![B, 1, 8, C]⟩ off
      (shapeCast ⟨4, ![B, 2, 8, C]⟩ (rowsOfParity p ⟨2, ![R2, C]⟩ y h1) h2) h3) h4) h5
    let m := maximumf (F := Ideal) (φ := .bf16) (interleaveRows ⟨2, ![R2, C]⟩ (half 0 _ h3) (half 1 _ h3) h6)
      (interleaveRows ⟨2, ![R2, C]⟩ (half 0 _ h3') (half 1 _ h3') h6)
    shapeCast ⟨2, ![R4, C]⟩ (broadcastTo ⟨3, ![B, 8, C]⟩ (shapeCast ⟨3, ![B, 1, C]⟩ (shapeCast ⟨3, ![B, 1, C]⟩
      (multiReduction (F := Ideal) .maximumf [1] ⟨2, ![B, C]⟩ (shapeCast ⟨3, ![B, 8, C]⟩
        (maximumf (F := Ideal) (φ := .f32) (extf .f32 (rowsOfParity 1 ⟨2, ![R4, C]⟩ m h6) hb)
          (extf .f32 (rowsOfParity 0 ⟨2, ![R4, C]⟩ m h6) hb)) h7) 0xFF800000#32 h8 hφ hacc) h9) h10) h11) h5 (ix2 r c)
      = Finset.univ.sup fun k : Fin 32 => y (ix2 (⟨32 * b.val + k.val, by omega⟩ : Fin R) c) := by
  intro half m
  rw [cast_rows _ h5 b q c r hr, bcast_mid, cast_same, cast_mid, reduce_mid]
  rw [← sup_order (fun k : Fin 32 => y (ix2 (⟨32 * b.val + k.val, by omega⟩ : Fin R) c))
    (fun q => ⟨2 * q.val, by omega⟩) (fun q => ⟨2 * q.val + 1, by omega⟩) (fun q => ⟨16 + 2 * q.val, by omega⟩)
    (fun q => ⟨16 + 2 * q.val + 1, by omega⟩) (fun _ => rfl) (fun _ => rfl) (fun _ => rfl) (fun _ => rfl)]
  refine congrArg _ (funext fun q' => ?_)
  rw [cast_unrows _ h7 b q' c (⟨8 * b.val + q'.val, by omega⟩ : Fin R4) rfl]
  have hm : ∀ p : Fin 2, rowsOfParity p ⟨2, ![R4, C]⟩ m h6
      = maximumf (F := Ideal) (φ := .bf16) (half p _ h3) (half p _ h3') := by
    intro p
    have e : rowsOfParity p ⟨2, ![R4, C]⟩ m h6 = maximumf (F := Ideal) (φ := .bf16)
        (rowsOfParity p ⟨2, ![R4, C]⟩ (interleaveRows ⟨2, ![R2, C]⟩ (half 0 _ h3) (half 1 _ h3) h6) h6)
        (rowsOfParity p ⟨2, ![R4, C]⟩ (interleaveRows ⟨2, ![R2, C]⟩ (half 0 _ h3') (half 1 _ h3') h6) h6) := rfl
    rw [e]
    match p with
    | ⟨0, _⟩ => exact congrArg₂ _ (rowsOfParity_zero_interleaveRows h6 _ _) (rowsOfParity_zero_interleaveRows h6 _ _)
    | ⟨1, _⟩ => exact congrArg₂ _ (rowsOfParity_one_interleaveRows h6 _ _) (rowsOfParity_one_interleaveRows h6 _ _)
  rw [hm 0, hm 1]
  have hh : ∀ (p u : Fin 2) (off : Fin 4 → ℕ) (hoff : off = ![0, u.val, 0, 0])
      (h3 : (⟨4, ![B, 2, 8, C]⟩ : Shape).Slices off ⟨4, ![B, 1, 8, C]⟩),
      half p off h3 (ix2 (⟨8 * b.val + q'.val, by omega⟩ : Fin R4) c)
        = y (ix2 (⟨32 * b.val + 16 * u.val + 2 * q'.val + p.val, by omega⟩ : Fin R) c) := fun p u off hoff h3 =>
    half_apply p u off hoff y h1 h2 h3 h4 h5 hR2 b q' c _ rfl _ rfl
  show max (max (half 1 _ h3 _) (half 1 _ h3' _)) (max (half 0 _ h3 _) (half 0 _ h3' _)) = _
  refine congrArg₂ max (congrArg₂ max ((hh 1 0 _ rfl h3).trans ?_) ((hh 1 1 _ rfl h3').trans ?_))
    (congrArg₂ max ((hh 0 0 _ rfl h3).trans ?_) ((hh 0 1 _ rfl h3').trans ?_)) <;>
    exact congrArg (fun i => y (ix2 i c)) (Fin.ext (by simp; try omega))

end Chain

end Cert.Mx
-- ==== Proof.DgradTile.lean ====
/- One 256 x 256 tile of the first quantiser: the scale bytes, codes, decoded values and byte row the kernel computes from
   the tile, at an index. A block is 32 neighbours of a ROW; the kernel works on the transposed tile. -/
module

public import proofs.«01_k».proof.Proof.Gen.KernelIdeal.Skeleton
public import proofs.«01_k».proof.Proof.Blocks

@[expose] public section

noncomputable section

namespace Cert.Mx

open Idealize.ShloMosaic Idealize.ShloMosaic.ValueIdx Cert.KernelIdeal Cert.KernelIdeal.Gen

/-- The scale bytes of a tile, as words, each given to the 8 word rows of its block. -/
def tileByte (v : FVec Ideal S256x256 .bf16) : IVec S8x8x256 32 :=
  k1_pay5 (F := Ideal) (k1_pay3 (F := Ideal) v) (k1_pay4 (F := Ideal) v) 268435456#32

/-- The codes of a tile. -/
def tileCode (v : FVec Ideal S256x256 .bf16) : FVec Ideal S256x256 .fp8e5m2 :=
  k1_pay8 (F := Ideal) (k1_pay2 (F := Ideal) v) (tileByte v)

/-- The decoded values of a tile. -/
def tileD (v : FVec Ideal S256x256 .bf16) : FVec Ideal S256x256 .bf16 :=
  k1_pay9 (F := Ideal) (k1_pay2 (F := Ideal) v) (tileByte v)

/-- The scale bytes of a tile, one row per block, as numbers. -/
def tileRow (v : FVec Ideal S256x256 .bf16) : FVec Ideal S8x256 .f32 :=
  k1_pay6 (F := Ideal) (k1_pay3 (F := Ideal) v) (k1_pay4 (F := Ideal) v) 268435456#32

/-- The block of row `t` that column block `b` of a tile is. -/
def tileBlk (v : FVec Ideal S256x256 .bf16) (t : Fin 256) (b : Fin 8) : Fin 32 → EReal :=
  fun k => v (ix2 t (⟨32 * b.val + k.val, by omega⟩ : Fin 256))

/-- The tile's transpose, at an index. -/
theorem tile_transpose {α : Type} (x : S256x256.Idx → α) (h : S256x256.Transposes [1, 0] S256x256) (i j : Fin 256) :
    transpose S256x256 [1, 0] x h (ix2 i j) = x (ix2 j i) :=
  transpose_apply [1, 0] x h _ _ (fun a => by
    match a with
    | ⟨0, _⟩ => rfl
    | ⟨1, _⟩ => rfl)

/-- The block maximum over the format's maximum, in each of the block's 8 word rows. -/
theorem tile_p (v : FVec Ideal S256x256 .bf16) (r : Fin 64) (c : Fin 256) (b : Fin 8) (q : Fin 8) (hr : r.val = 8 * b.val + q.val) :
    k1_pay3 (F := Ideal) v (ix2 r c) = pOf (amax (tileBlk v c b)) := by
  have h := chain_max (B := 8) (C := 256) (R := 256) (R2 := 128) (R4 := 64)
    (absf (transpose S256x256 [1, 0] (k1_pay2 (F := Ideal) v) transposes_S256x256_p1_0_S256x256))
    bitcasts_S256x256_w16_S128x256_w32 shapeCasts_S128x256_S8x2x8x256 slices_S8x2x8x256_o0_0_0_0_S8x1x8x256
    slices_S8x2x8x256_o0_1_0_0_S8x1x8x256 shapeCasts_S8x1x8x256_S8x8x256 shapeCasts_S8x8x256_S64x256
    bitcasts_S128x256_w16_S64x256_w32 shapeCasts_S64x256_S8x8x256 reduces_S8x8x256_S8x256 (.inl rfl) rfl
    shapeCasts_S8x256_S8x1x256 shapeCasts_S8x1x256_S8x1x256 broadcasts_S8x1x256_S8x8x256 (by decide) rfl rfl rfl r c b q hr
  refine (congrArg (· * Ideal.ofBits .f32 0x37924925#32) h).trans ?_
  unfold pOf amax
  refine congrArg (· * Ideal.ofBits .f32 0x37924925#32) (congrArg _ (funext fun k => ?_))
  show max (transpose _ _ _ _ _) (-(transpose _ _ _ _ _)) = _
  rw [tile_transpose]
  unfold k1_pay2
  rw [cast_same]
  rfl

/-- The scale byte, in each of the block's 8 word rows. -/
theorem tile_byte (v : FVec Ideal S256x256 .bf16) (b q : Fin 8) (c : Fin 256) :
    tileByte v (ix3 b q c) = BitVec.ofNat 32 (scaleN (tileBlk v c b)) := by
  rw [← kByte, ← tile_p v (⟨8 * b.val + q.val, by omega⟩ : Fin 64) c b q rfl]
  unfold tileByte k1_pay5
  refine (cast_unrows _ shapeCasts_S64x256_S8x8x256 b q c (⟨8 * b.val + q.val, by omega⟩ : Fin 64) rfl).trans ?_
  rfl

/-- The scale of an element of a tile. -/
theorem tile_scale (v : FVec Ideal S256x256 .bf16) (t n : Fin 256) (b : Fin 8) (hb : b.val = n.val / 32) :
    Ideal.ofBits .bf16 (bitcast S256x256 16 (k1_pay7 (tileByte v)) bitcasts_S128x256_w32_S256x256_w16 (ix2 n t))
      = pw (scaleN (tileBlk v t b)) := by
  have h := spread_apply (B := 8) (C := 256) (R := 256) (R2 := 128) (fun j => pairW (tileByte v j)) id
    shapeCasts_S8x8x256_S8x1x8x256 shapeCasts_S8x1x8x256_S8x1x8x256 broadcasts_S8x1x8x256_S8x2x8x256
    shapeCasts_S8x2x8x256_S128x256 bitcasts_S128x256_w32_S256x256_w16 rfl rfl n t b hb
    ⟨n.val / 2 % 8, by omega⟩ rfl ⟨n.val % 2, by omega⟩ rfl
  rw [← kScale _ (⟨n.val % 2, by omega⟩ : Fin 2)]
  refine congrArg (Ideal.ofBits .bf16) (h.trans ?_)
  simp only [id, tile_byte]

/-- The reciprocal of the scale of an element of a tile. -/
theorem tile_inv (v : FVec Ideal S256x256 .bf16) (hv : ∀ i, Good (v i)) (t n : Fin 256) (b : Fin 8) (hb : b.val = n.val / 32) :
    Ideal.ofBits .bf16 (bitcast S256x256 16 (subi (broadcast S128x256 2130738944#32) (k1_pay7 (tileByte v)))
      bitcasts_S128x256_w32_S256x256_w16 (ix2 n t)) = pw (254 - scaleN (tileBlk v t b)) := by
  have h := spread_apply (B := 8) (C := 256) (R := 256) (R2 := 128) (fun j => pairW (tileByte v j)) (IntOp.subi 2130738944#32)
    shapeCasts_S8x8x256_S8x1x8x256 shapeCasts_S8x1x8x256_S8x1x8x256 broadcasts_S8x1x8x256_S8x2x8x256
    shapeCasts_S8x2x8x256_S128x256 bitcasts_S128x256_w32_S256x256_w16 rfl rfl n t b hb
    ⟨n.val / 2 % 8, by omega⟩ rfl ⟨n.val % 2, by omega⟩ rfl
  rw [← kInv (tileBlk v t b) (fun k => hv _) (⟨n.val % 2, by omega⟩ : Fin 2)]
  refine congrArg (Ideal.ofBits .bf16) (h.trans ?_)
  simp only [tile_byte]

/-- The code of an element of a tile. -/
theorem tile_code (v : FVec Ideal S256x256 .bf16) (hv : ∀ i, Good (v i)) (t n : Fin 256) (b : Fin 8) (hb : b.val = n.val / 32) :
    tileCode v (ix2 t n) = codeV (tileBlk v t b) (v (ix2 t n)) := by
  unfold codeV
  rw [← tile_inv v hv t n b hb]
  have h1 : k1_pay2 (F := Ideal) v (ix2 t n) = v (ix2 t n) := cast_same _ _ _
  have h2 := tile_transpose (bitcastToFloat (F := Ideal) .bf16 (bitcast S256x256 16 (subi (broadcast S128x256 2130738944#32) (k1_pay7 (tileByte v)))
      bitcasts_S128x256_w32_S256x256_w16)) transposes_S256x256_p1_0_S256x256 t n
  exact congrArg (fun z => min (Ideal.ofBits .f32 0x47600000#32) (max (Ideal.ofBits .f32 0xC7600000#32) z)) (congrArg₂ (· * ·) h1 h2)

/-- The decoded value of an element of a tile. -/
theorem tile_d (v : FVec Ideal S256x256 .bf16) (hv : ∀ i, Good (v i)) (t n : Fin 256) (b : Fin 8) (hb : b.val = n.val / 32) :
    tileD v (ix2 t n) = deqV (tileBlk v t b) (v (ix2 t n)) := by
  unfold deqV
  rw [← tile_code v hv t n b hb, ← tile_scale v t n b hb]
  have h2 := tile_transpose (bitcastToFloat (F := Ideal) .bf16 (bitcast S256x256 16 (k1_pay7 (tileByte v))
      bitcasts_S128x256_w32_S256x256_w16)) transposes_S256x256_p1_0_S256x256 t n
  unfold tileD k1_pay9
  exact (cast_same _ shapeCasts_S256x256_S256x256 (ix2 t n)).trans (congrArg (tileCode v (ix2 t n) * ·) h2)

/-- The scale byte of a block, as a number. -/
theorem tile_row (v : FVec Ideal S256x256 .bf16) (b : Fin 8) (c : Fin 256) :
    tileRow v (ix2 b c) = FloatOps.sitofp (F := Ideal) .f32 (BitVec.ofNat 32 (scaleN (tileBlk v c b))) := by
  unfold tileRow k1_pay6
  refine (cast_same _ shapeCasts_S8x256_S8x256 (ix2 b c)).trans ?_
  refine congrArg (FloatOps.sitofp (F := Ideal) .f32) ?_
  refine (cast_unmid _ shapeCasts_S8x1x256_S8x256 b c).trans ?_
  refine (extractStridedSlice_apply _ _ slices_S8x8x256_o0_0_0_S8x1x256 _ (ix3 b 0 c) (fun a => ?_)).trans (tile_byte v b 0 c)
  match a with
  | ⟨0, _⟩ => show b.val = 0 + b.val; omega
  | ⟨1, _⟩ => rfl
  | ⟨2, _⟩ => show c.val = 0 + c.val; omega

end Cert.Mx
-- ==== Proof.WgradTile.lean ====
/- One 512 x 1024 row block of the second quantiser: the scale bytes, codes, decoded values and byte rows the kernel
   computes from it, at an index. A block is 32 neighbours of a COLUMN. The kernel's body holds the same arithmetic twice,
   for the two row blocks of a grid point. -/
module

public import proofs.«01_k».proof.Proof.Gen.KernelIdeal.Skeleton
public import proofs.«01_k».proof.Proof.Blocks

@[expose] public section

noncomputable section

namespace Cert.Mx

open Idealize.ShloMosaic Idealize.ShloMosaic.ValueIdx Cert.KernelIdeal Cert.KernelIdeal.Gen

/-- The scale bytes of a row block, as words, each given to the 8 word rows of its block. -/
def colByte (v : FVec Ideal S512x1024 .bf16) : IVec S16x8x1024 32 :=
  k2_pay5 (F := Ideal) (k2_pay3 (F := Ideal) v) (k2_pay4 (F := Ideal) v) 536870912#32

/-- The codes of a row block. -/
def colCode (v : FVec Ideal S512x1024 .bf16) : FVec Ideal S512x1024 .fp8e5m2 :=
  k2_pay9 (F := Ideal) (k2_pay2 (F := Ideal) v) (colByte v)

/-- The decoded values of a row block. -/
def colD (v : FVec Ideal S512x1024 .bf16) : FVec Ideal S512x1024 .bf16 :=
  k2_pay10 (F := Ideal) (k2_pay2 (F := Ideal) v) (colByte v)

/-- The scale bytes of a row block, one row per block. -/
def colRow (v : FVec Ideal S512x1024 .bf16) : IVec S1x16x1024 8 :=
  k2_pay7 (k2_pay6 (F := Ideal) (k2_pay3 (F := Ideal) v) (k2_pay4 (F := Ideal) v) 536870912#32)

/-- The block of column `c` that row group `b` of a row block is. -/
def colTBlk (v : FVec Ideal S512x1024 .bf16) (b : Fin 16) (c : Fin 1024) : Fin 32 → EReal :=
  fun k => v (ix2 (⟨32 * b.val + k.val, by omega⟩ : Fin 512) c)

/-- The second row block's bytes are the same function of it. -/
theorem colByte_eq (v : FVec Ideal S512x1024 .bf16) :
    k2_pay22 (k2_pay19 (F := Ideal) (k2_pay15 (F := Ideal) v) k2_pay16 k2_pay17) (k2_pay20 (F := Ideal) (k2_pay15 (F := Ideal) v) k2_pay16 k2_pay17) k2_pay21
      = colByte v := rfl

/-- The second row block's codes are the same function of it. -/
theorem colCode_eq (v : FVec Ideal S512x1024 .bf16) :
    k2_pay25 (F := Ideal) (k2_pay14 (F := Ideal) v) (k2_pay19 (F := Ideal) (k2_pay15 (F := Ideal) v) k2_pay16 k2_pay17) (k2_pay20 (F := Ideal) (k2_pay15 (F := Ideal) v) k2_pay16 k2_pay17) k2_pay21
      = colCode v := rfl

/-- The second row block's decoded values are the same function of it. -/
theorem colD_eq (v : FVec Ideal S512x1024 .bf16) :
    k2_pay26 (F := Ideal) (k2_pay14 (F := Ideal) v) (k2_pay19 (F := Ideal) (k2_pay15 (F := Ideal) v) k2_pay16 k2_pay17) (k2_pay20 (F := Ideal) (k2_pay15 (F := Ideal) v) k2_pay16 k2_pay17) k2_pay21
      = colD v := rfl

/-- The second row block's byte rows are the same function of it. -/
theorem colRow_eq (v : FVec Ideal S512x1024 .bf16) :
    k2_pay23 (k2_pay19 (F := Ideal) (k2_pay15 (F := Ideal) v) k2_pay16 k2_pay17) (k2_pay20 (F := Ideal) (k2_pay15 (F := Ideal) v) k2_pay16 k2_pay17) k2_pay21
      = colRow v := rfl

/-- The block maximum over the format's maximum, in each of the block's 8 word rows. -/
theorem col_p (v : FVec Ideal S512x1024 .bf16) (r : Fin 128) (c : Fin 1024) (b : Fin 16) (q : Fin 8) (hr : r.val = 8 * b.val + q.val) :
    k2_pay3 (F := Ideal) v (ix2 r c) = pOf (amax (colTBlk v b c)) := by
  have h := chain_max (B := 16) (C := 1024) (R := 512) (R2 := 256) (R4 := 128)
    (absf (k2_pay2 (F := Ideal) v))
    bitcasts_S512x1024_w16_S256x1024_w32 shapeCasts_S256x1024_S16x2x8x1024 slices_S16x2x8x1024_o0_0_0_0_S16x1x8x1024
    slices_S16x2x8x1024_o0_1_0_0_S16x1x8x1024 shapeCasts_S16x1x8x1024_S16x8x1024 shapeCasts_S16x8x1024_S128x1024
    bitcasts_S256x1024_w16_S128x1024_w32 shapeCasts_S128x1024_S16x8x1024 reduces_S16x8x1024_S16x1024 (.inl rfl) rfl
    shapeCasts_S16x1024_S16x1x1024 shapeCasts_S16x1x1024_S16x1x1024 broadcasts_S16x1x1024_S16x8x1024 (by decide) rfl rfl rfl r c b q hr
  refine (congrArg (· * Ideal.ofBits .f32 0x37924925#32) h).trans ?_
  unfold pOf amax
  refine congrArg (· * Ideal.ofBits .f32 0x37924925#32) (congrArg _ (funext fun k => ?_))
  show max (k2_pay2 (F := Ideal) v _) (-(k2_pay2 (F := Ideal) v _)) = _
  unfold k2_pay2
  rw [cast_same]
  rfl

/-- The scale byte, in each of the block's 8 word rows. -/
theorem col_byte (v : FVec Ideal S512x1024 .bf16) (b : Fin 16) (q : Fin 8) (c : Fin 1024) :
    colByte v (ix3 b q c) = BitVec.ofNat 32 (scaleN (colTBlk v b c)) := by
  rw [← kByte, ← col_p v (⟨8 * b.val + q.val, by omega⟩ : Fin 128) c b q rfl]
  unfold colByte k2_pay5
  refine (cast_unrows _ shapeCasts_S128x1024_S16x8x1024 b q c (⟨8 * b.val + q.val, by omega⟩ : Fin 128) rfl).trans ?_
  rfl

/-- The scale of an element of a row block. -/
theorem col_scale (v : FVec Ideal S512x1024 .bf16) (i : Fin 512) (c : Fin 1024) (b : Fin 16) (hb : b.val = i.val / 32) :
    Ideal.ofBits .bf16 (bitcast S512x1024 16 (k2_pay8 (colByte v)) bitcasts_S256x1024_w32_S512x1024_w16 (ix2 i c))
      = pw (scaleN (colTBlk v b c)) := by
  have h := spread_apply (B := 16) (C := 1024) (R := 512) (R2 := 256) (fun j => pairW (colByte v j)) id
    shapeCasts_S16x8x1024_S16x1x8x1024 shapeCasts_S16x1x8x1024_S16x1x8x1024 broadcasts_S16x1x8x1024_S16x2x8x1024
    shapeCasts_S16x2x8x1024_S256x1024 bitcasts_S256x1024_w32_S512x1024_w16 rfl rfl i c b hb
    ⟨i.val / 2 % 8, by omega⟩ rfl ⟨i.val % 2, by omega⟩ rfl
  rw [← kScale _ (⟨i.val % 2, by omega⟩ : Fin 2)]
  refine congrArg (Ideal.ofBits .bf16) (h.trans ?_)
  simp only [id, col_byte]

/-- The reciprocal of the scale of an element of a row block. -/
theorem col_inv (v : FVec Ideal S512x1024 .bf16) (hv : ∀ i, Good (v i)) (i : Fin 512) (c : Fin 1024) (b : Fin 16) (hb : b.val = i.val / 32) :
    Ideal.ofBits .bf16 (bitcast S512x1024 16 (subi (broadcast S256x1024 2130738944#32) (k2_pay8 (colByte v)))
      bitcasts_S256x1024_w32_S512x1024_w16 (ix2 i c)) = pw (254 - scaleN (colTBlk v b c)) := by
  have h := spread_apply (B := 16) (C := 1024) (R := 512) (R2 := 256) (fun j => pairW (colByte v j)) (IntOp.subi 2130738944#32)
    shapeCasts_S16x8x1024_S16x1x8x1024 shapeCasts_S16x1x8x1024_S16x1x8x1024 broadcasts_S16x1x8x1024_S16x2x8x1024
    shapeCasts_S16x2x8x1024_S256x1024 bitcasts_S256x1024_w32_S512x1024_w16 rfl rfl i c b hb
    ⟨i.val / 2 % 8, by omega⟩ rfl ⟨i.val % 2, by omega⟩ rfl
  rw [← kInv (colTBlk v b c) (fun k => hv _) (⟨i.val % 2, by omega⟩ : Fin 2)]
  refine congrArg (Ideal.ofBits .bf16) (h.trans ?_)
  simp only [col_byte]

/-- The code of an element of a row block. -/
theorem col_code (v : FVec Ideal S512x1024 .bf16) (hv : ∀ i, Good (v i)) (i : Fin 512) (c : Fin 1024) (b : Fin 16) (hb : b.val = i.val / 32) :
    colCode v (ix2 i c) = codeV (colTBlk v b c) (v (ix2 i c)) := by
  unfold codeV
  rw [← col_inv v hv i c b hb]
  have h1 : k2_pay2 (F := Ideal) v (ix2 i c) = v (ix2 i c) := cast_same _ _ _
  exact congrArg (fun z => min (Ideal.ofBits .f32 0x47600000#32) (max (Ideal.ofBits .f32 0xC7600000#32) z)) (congrArg₂ (· * ·) h1 rfl)

/-- The decoded value of an element of a row block. -/
theorem col_d (v : FVec Ideal S512x1024 .bf16) (hv : ∀ i, Good (v i)) (i : Fin 512) (c : Fin 1024) (b : Fin 16) (hb : b.val = i.val / 32) :
    colD v (ix2 i c) = deqV (colTBlk v b c) (v (ix2 i c)) := by
  unfold deqV
  rw [← col_code v hv i c b hb, ← col_scale v i c b hb]
  rfl

/-- The scale byte of a block. -/
theorem col_row (v : FVec Ideal S512x1024 .bf16) (b : Fin 16) (c : Fin 1024) :
    colRow v (ix3 0 b c) = BitVec.ofNat 8 (scaleN (colTBlk v b c)) := by
  unfold colRow k2_pay7
  refine (cast_lead _ shapeCasts_S16x1024_S1x16x1024 b c).trans ?_
  have h : k2_pay6 (F := Ideal) (k2_pay3 (F := Ideal) v) (k2_pay4 (F := Ideal) v) 536870912#32 (ix2 b c)
      = BitVec.ofNat 32 (scaleN (colTBlk v b c)) := by
    unfold k2_pay6
    refine (cast_unmid _ shapeCasts_S16x1x1024_S16x1024 b c).trans ?_
    refine (extractStridedSlice_apply _ _ slices_S16x8x1024_o0_0_0_S16x1x1024 _ (ix3 b 0 c) (fun a => ?_)).trans (col_byte v b 0 c)
    match a with
    | ⟨0, _⟩ => show b.val = 0 + b.val; omega
    | ⟨1, _⟩ => rfl
    | ⟨2, _⟩ => show c.val = 0 + c.val; omega
  refine (congrArg (BitVec.setWidth 8) h).trans ?_
  exact BitVec.setWidth_ofNat_of_le (by decide) _

end Cert.Mx
-- ==== Proof.Products.lean ====
/- The kernel's products at an index: operands read back from codes and scale bytes, and the sums over rows or columns. -/
module

public import proofs.«01_k».proof.Proof.DgradTile
public import proofs.«01_k».proof.Proof.WgradTile
public import Idealize.ShloMosaic.Lib.Pointwise.Contract

@[expose] public section

noncomputable section

namespace Cert.Mx

open Idealize.ShloMosaic hiding ix2 ix3 ix4
open Idealize.ShloMosaic.ValueIdx Cert.KernelIdeal Cert.KernelIdeal.Gen

/-- One row per block, given to the 32 rows of its block. -/
theorem rep32_apply {α : Type} {B C R : ℕ} (z : (⟨2, ![B, C]⟩ : Shape).Idx → α)
    (h1 : (⟨2, ![B, C]⟩ : Shape).ShapeCasts ⟨3, ![B, 1, C]⟩) (h2 : (⟨3, ![B, 1, C]⟩ : Shape).ShapeCasts ⟨3, ![B, 1, C]⟩)
    (h3 : (⟨3, ![B, 1, C]⟩ : Shape).Broadcasts ⟨3, ![B, 32, C]⟩) (h4 : (⟨3, ![B, 32, C]⟩ : Shape).ShapeCasts ⟨2, ![R, C]⟩)
    (i : Fin R) (c : Fin C) (b : Fin B) (hb : b.val = i.val / 32) :
    shapeCast ⟨2, ![R, C]⟩ (broadcastTo ⟨3, ![B, 32, C]⟩ (shapeCast ⟨3, ![B, 1, C]⟩ (shapeCast ⟨3, ![B, 1, C]⟩ z h1) h2) h3) h4 (ix2 i c)
      = z (ix2 b c) := by
  rw [cast_rows _ h4 b (⟨i.val % 32, by omega⟩ : Fin 32) c i (by rw [hb]; show _ = 32 * (i.val / 32) + i.val % 32; omega),
    bcast_mid, cast_same, cast_mid]

/-- A weight read back from its code and its block's scale byte. -/
theorem wdeq_apply (s : IVec S32x2048 8) (w : FVec Ideal S1024x2048 .fp8e4m3) (n : Fin 1024) (k : Fin 2048) (b : Fin 32)
    (hb : b.val = n.val / 32) :
    k0_pay1 (F := Ideal) s w (ix2 n k) = w (ix2 n k) * pw (s (ix2 b k)).toNat := by
  unfold k0_pay1
  rw [← kShift]
  refine congrArg (w (ix2 n k) * ·) ?_
  exact (rep32_apply (B := 32) (C := 2048) (R := 1024) _ _ _ _ _ n k b hb).trans rfl

/-- A row block of `x` 's scales. -/
theorem xscale_apply (s : IVec S1x16x2048 8) (i : Fin 512) (k : Fin 2048) (b : Fin 16) (hb : b.val = i.val / 32) :
    k2_pay11 (F := Ideal) s (ix2 i k) = pw (s (ix3 0 b k)).toNat := by
  rw [← kShift]
  unfold k2_pay11
  refine (rep32_apply (B := 16) (C := 2048) (R := 512) _ _ _ _ _ i k b hb).trans ?_
  refine congrArg (fun z : BitVec 8 => Ideal.ofBits .f32 (IntOp.shli .vector (z.setWidth 32) 23#32)) ?_
  exact cast_unlead _ shapeCasts_S1x16x2048_S16x2048 b k

/-- The second row block's scales are the same function of them. -/
theorem xscale_eq (s : IVec S1x16x2048 8) : k2_pay27 (F := Ideal) s = k2_pay11 (F := Ideal) s := rfl

/-- A product over the rows of both operands. -/
theorem mm_cols (lhs : FVec Ideal S512x1024 .bf16) (rhs : FVec Ideal S512x2048 .bf16) (acc : FVec Ideal S1024x2048 .f32) (n : Fin 1024) (k : Fin 2048) :
    matmul (F := Ideal) dot_S512x1024_S512x2048_S1024x2048_0_0_1_1_n_n none lhs rhs acc (ix2 n k)
      = acc (ix2 n k) + ∑ i : Fin 512, lhs (ix2 i n) * rhs (ix2 i k) :=
  Ideal.matmul_apply₁_of dot_S512x1024_S512x2048_S1024x2048_0_0_1_1_n_n (a := (0 : Fin 2)) rfl rfl lhs rhs acc _ _ _
    (fun i => by funext a; apply Fin.ext; match a with | ⟨0, _⟩ => rfl | ⟨1, _⟩ => rfl)
    (fun i => by funext a; apply Fin.ext; match a with | ⟨0, _⟩ => rfl | ⟨1, _⟩ => rfl)

/-- One row block's part of the weight gradient. -/
theorem step1_apply (d : FVec Ideal S512x1024 .bf16) (xs : FVec Ideal S512x2048 .bf16) (x : FVec Ideal S512x2048 .fp8e4m3)
    (acc : FVec Ideal S1024x2048 .f32) (n : Fin 1024) (k : Fin 2048) :
    k2_pay13 (F := Ideal) d xs (k2_pay12 (F := Ideal) x) acc (ix2 n k)
      = acc (ix2 n k) + ∑ i : Fin 512, d (ix2 i n) * (x (ix2 i k) * xs (ix2 i k)) := by
  unfold k2_pay13
  refine congrArg₂ (· + ·) (cast_same _ shapeCasts_S1024x2048_S1024x2048 (ix2 n k)) ((mm_cols _ _ _ n k).trans ?_)
  refine (congrArg (· + _) (Ideal.ofBits_zero_f32)).trans ((zero_add _).trans (Finset.sum_congr rfl fun i _ => ?_))
  refine congrArg (d (ix2 i n) * ·) (congrArg (· * xs (ix2 i k)) ?_)
  exact cast_same _ shapeCasts_S512x2048_S512x2048 (ix2 i k)

/-- The second row block's part is the same function. -/
theorem step2_eq (d : FVec Ideal S512x1024 .bf16) (xs : FVec Ideal S512x2048 .bf16) (x : FVec Ideal S512x2048 .fp8e4m3)
    (acc : FVec Ideal S1024x2048 .f32) :
    k2_pay1 (F := Ideal) d xs x acc = k2_pay13 (F := Ideal) d xs (k2_pay12 (F := Ideal) x) acc := rfl

set_option maxRecDepth 65536 in
/-- A product over the columns of the left operand. -/
theorem mm_rows (lhs : FVec Ideal S256x8192 .bf16) (rhs : FVec Ideal S8192x2048 .bf16) (acc : FVec Ideal S256x2048 .f32) (t : Fin 256) (k : Fin 2048) :
    matmul (F := Ideal) dot_S256x8192_S8192x2048_S256x2048_1_0_0_1_n_n none lhs rhs acc (ix2 t k)
      = acc (ix2 t k) + ∑ n : Fin 8192, lhs (ix2 t n) * rhs (ix2 n k) :=
  Ideal.matmul_apply₁_of dot_S256x8192_S8192x2048_S256x2048_1_0_0_1_n_n (a := (1 : Fin 2)) rfl rfl lhs rhs acc _ _ _
    (fun i => by funext a; apply Fin.ext; match a with | ⟨0, _⟩ => rfl | ⟨1, _⟩ => rfl)
    (fun i => by funext a; apply Fin.ext; match a with | ⟨0, _⟩ => rfl | ⟨1, _⟩ => rfl)

/-- The activation gradient's product. -/
theorem dgrad_apply (d : FVec Ideal S256x8192 .bf16) (w : FVec Ideal S8192x2048 .bf16) (t : Fin 256) (k : Fin 2048) :
    k1_pay1 (F := Ideal) d w (ix2 t k) = ∑ n : Fin 8192, d (ix2 t n) * w (ix2 n k) := by
  refine (mm_rows d (shapeCast S8192x2048 w shapeCasts_S8192x2048_S8192x2048) (constant S256x2048 .f32 0x00000000#32) t k).trans ?_
  refine (congrArg (· + _) (Ideal.ofBits_zero_f32)).trans ((zero_add _).trans (Finset.sum_congr rfl fun i _ => ?_))
  exact congrArg (d (ix2 t i) * ·) (cast_same _ shapeCasts_S8192x2048_S8192x2048 (ix2 i k))

end Cert.Mx
-- ==== Proof.DgradRun.lean ====
/- What one run of the second call's body leaves in its output blocks: 32 column tiles are stored one after another, each
   the codes (or decoded values, or byte rows) of the tile of the block loaded at the same columns. -/
module

public import proofs.«01_k».proof.Proof.Gen.KernelIdeal.Frame
public import proofs.«01_k».proof.Proof.DgradTile
public import proofs.«01_k».proof.Proof.Products
public import Idealize.ShloMosaic.Lib.Pipeline.Value

@[expose] public section

noncomputable section

namespace Cert.DgradRun

open Idealize.ShloMosaic hiding ix2 ix3 ix4
open Idealize.ShloMosaic.TcCoe Idealize.ShloMosaic.Tactic
open Idealize.ShloMosaic.ValueIdx Cert.KernelIdeal Cert.KernelIdeal.Gen Cert.Mx

/-- The columns of tile `j` lie inside the block. -/
theorem inbC (j : Fin 32) : ∀ a, (![0, 256 * j.val] : Fin 2 → Nat) a + S256x256.size a ≤ S256x8192.size a := fun a => by
  match a with
  | ⟨0, _⟩ => show 0 + 256 ≤ 256; omega
  | ⟨1, _⟩ => show 256 * j.val + 256 ≤ 8192; omega

/-- The byte rows of tile `j` lie inside the byte block. -/
theorem inbR (j : Fin 32) : ∀ a, (![8 * j.val, 0] : Fin 2 → Nat) a + S8x256.size a ≤ S256x256.size a := fun a => by
  match a with
  | ⟨0, _⟩ => show 8 * j.val + 8 ≤ 256; omega
  | ⟨1, _⟩ => show 0 + 256 ≤ 256; omega

/-- The tiles, last stored first. -/
def tiles : List (Fin 32) := [31, 30, 29, 28, 27, 26, 25, 24, 23, 22, 21, 20, 19, 18, 17, 16, 15, 14, 13, 12, 11, 10, 9, 8, 7, 6, 5, 4, 3, 2, 1, 0]

/-- Tile `j` of the block, as the body loads it. -/
def tileAt (arg1 : Memref sig .tc .vmem S256x8192 .bf16) (harg1 : arg1.IsWhole) (x0 : Vec Ideal S256x8192 .bf16) (j : Fin 32) :
    FVec Ideal S256x256 .bf16 :=
  View.readAt (Elt Ideal) arg1.view (Rect.unit (s := S256x8192) ![0, 256 * j.val] S256x256.size (inbC j)).toLoadRect (harg1.unread x0)

/-- A loaded tile, at an index. -/
theorem tileAt_apply (arg1 : Memref sig .tc .vmem S256x8192 .bf16) (harg1 : arg1.IsWhole) (x0 : Vec Ideal S256x8192 .bf16) (j : Fin 32) (t n : Fin 256) :
    tileAt arg1 harg1 x0 j (ix2 t n) = x0 (ix2 t (⟨256 * j.val + n.val, by omega⟩ : Fin 8192)) := by
  unfold tileAt
  rw [View.readAt_apply, harg1.read_unread]
  refine congrArg x0 (funext fun a => Fin.ext ?_)
  match a with
  | ⟨0, _⟩ => show 0 + 1 * t.val = t.val; omega
  | ⟨1, _⟩ => show 256 * j.val + 1 * n.val = 256 * j.val + n.val; omega

variable (c : Dev nD) (i : grid1.Coords) (arg1 : Memref sig .tc .vmem S256x8192 .bf16) (harg1 : arg1.IsWhole) (arg2 : Memref sig .tc .vmem S8192x2048 .bf16) (harg2 : arg2.IsWhole) (arg3 : Memref sig .tc .vmem S256x2048 .bf16) (harg3 : arg3.IsWhole) (arg4 : Memref sig .tc .vmem S256x8192 .fp8e5m2) (harg4 : arg4.IsWhole) (arg5 : Memref sig .tc .vmem S256x256 .i8) (harg5 : arg5.IsWhole) (arg6 : Memref sig .tc .vmem S256x8192 .bf16) (harg6 : arg6.IsWhole) (arg7 : Memref sig .tc .vmem S256x256 .f32) (harg7 : arg7.IsWhole)
    (x0 : Vec Ideal S256x8192 .bf16) (x1 : Vec Ideal S8192x2048 .bf16)

/-- The code tiles stored. -/
theorem codes_eq :
    (kernelRun1_A (F := Ideal) c i arg1 harg1 arg2 harg2 arg3 harg3 arg4 harg4 arg5 harg5 arg6 harg6 arg7 harg7 x0 x1).2.1
      = tiles.map fun j => (⟨Rect.unit ![0, 256 * j.val] S256x256.size (inbC j), tileCode (tileAt arg1 harg1 x0 j)⟩ : View.Piece (Elt Ideal) S256x8192 .fp8e5m2) := by
  sl_kernel_rfl

/-- The tiles of decoded values stored. -/
theorem ds_eq : kernelRun1_A.sl.HS0_32 (F := Ideal) c arg1 harg1 x0
      = tiles.map fun j => (⟨Rect.unit ![0, 256 * j.val] S256x256.size (inbC j), tileD (tileAt arg1 harg1 x0 j)⟩ : View.Piece (Elt Ideal) S256x8192 .bf16) := by
  sl_kernel_rfl

/-- The byte rows stored. -/
theorem rows_eq : kernelRun1_A.sl.HS1_32 (F := Ideal) c arg1 harg1 x0
      = tiles.map fun j => (⟨Rect.unit ![8 * j.val, 0] S8x256.size (inbR j), tileRow (tileAt arg1 harg1 x0 j)⟩ : View.Piece (Elt Ideal) S256x256 .f32) := by
  sl_kernel_rfl

/-- The tiles of decoded values tile the scratch array. -/
theorem ds_cover (y : S256x8192.Idx) : ∃ pc ∈ kernelRun1_A.sl.HS0_32 (F := Ideal) c arg1 harg1 x0, y ∈ pc.1.set :=
  View.cover_of_tiledL (kernelRun1_A.sl.HS0_32 (F := Ideal) c arg1 harg1 x0) S256x256.size (by sl_kernel_rfl) y

/-- The byte rows tile the scratch array. -/
theorem rows_cover (y : S256x256.Idx) : ∃ pc ∈ kernelRun1_A.sl.HS1_32 (F := Ideal) c arg1 harg1 x0, y ∈ pc.1.set :=
  View.cover_of_tiledL (kernelRun1_A.sl.HS1_32 (F := Ideal) c arg1 harg1 x0) S8x256.size (by sl_kernel_rfl) y

/-- The store of the whole activation gradient block. -/
theorem dx_eq :
    (kernelRun1_A (F := Ideal) c i arg1 harg1 arg2 harg2 arg3 harg3 arg4 harg4 arg5 harg5 arg6 harg6 arg7 harg7 x0 x1).1
      = [(⟨Rect.unit ![0, 0] S256x2048.size inb_S256x2048_S256x2048_0_0,
          k1_pay1 (F := Ideal) (kernelRun1_A.sl.v3813 (F := Ideal) c arg1 harg1 arg6 x0)
            (View.readAt (Elt Ideal) arg2.view (Rect.unit (s := S8192x2048) ![0, 0] S8192x2048.size inb_S8192x2048_S8192x2048_0_0).toLoadRect (harg2.unread x1))⟩ :
          View.Piece (Elt Ideal) S256x2048 .bf16)] := by
  sl_kernel_rfl

/-- The store of the whole block of scale bytes. -/
theorem bytes_eq :
    (kernelRun1_A (F := Ideal) c i arg1 harg1 arg2 harg2 arg3 harg3 arg4 harg4 arg5 harg5 arg6 harg6 arg7 harg7 x0 x1).2.2.1
      = [(⟨Rect.unit ![0, 0] S256x256.size inb_S256x256_S256x256_0_0,
          k1_pay367 (F := Ideal) (kernelRun1_A.sl.v3808 (F := Ideal) c arg1 harg1 arg7 x0)⟩ :
          View.Piece (Elt Ideal) S256x256 .i8)] := by
  sl_kernel_rfl

end Cert.DgradRun
-- ==== Proof.DgradVal.lean ====
/- The values one run of the second call's body leaves in its three output blocks, at an index. -/
module

public import proofs.«01_k».proof.Proof.DgradRun

@[expose] public section

noncomputable section

namespace Cert.DgradRun

open Idealize.ShloMosaic hiding ix2 ix3 ix4
open Idealize.ShloMosaic.TcCoe
open Idealize.ShloMosaic.ValueIdx Cert.KernelIdeal Cert.KernelIdeal.Gen Cert.Mx

/-- Block `b` of row `t` of the input block. -/
def blkAt (x0 : S256x8192.Idx → EReal) (t b : Fin 256) : Fin 32 → EReal :=
  fun k => x0 (ix2 t (⟨32 * b.val + k.val, by omega⟩ : Fin 8192))

/-- The block of columns that column `n` lies in. -/
abbrev blkC (n : Fin 8192) : Fin 256 := ⟨n.val / 32, by omega⟩

/-- Offsets that are zero. -/
theorem off0 : (![0, 0] : Fin 2 → Nat) = fun _ => 0 := funext fun a => by
  match a with
  | ⟨0, _⟩ => rfl
  | ⟨1, _⟩ => rfl

/-- An index of tile `j`, in the block. -/
theorem embC (j : Fin 32) (t n : Fin 256) :
    (Rect.unit (s := S256x8192) ![0, 256 * j.val] S256x256.size (inbC j)).emb (ix2 t n) = ix2 t (⟨256 * j.val + n.val, by omega⟩ : Fin 8192) :=
  funext fun a => Fin.ext (by
    match a with
    | ⟨0, _⟩ => show 0 + 1 * t.val = t.val; omega
    | ⟨1, _⟩ => show 256 * j.val + 1 * n.val = 256 * j.val + n.val; omega)

/-- An index of the byte rows of tile `j`, in the byte block. -/
theorem embR (j : Fin 32) (b : Fin 8) (t : Fin 256) :
    (Rect.unit (s := S256x256) ![8 * j.val, 0] S8x256.size (inbR j)).emb (ix2 b t) = ix2 (⟨8 * j.val + b.val, by omega⟩ : Fin 256) t :=
  funext fun a => Fin.ext (by
    match a with
    | ⟨0, _⟩ => show 8 * j.val + 1 * b.val = 8 * j.val + b.val; omega
    | ⟨1, _⟩ => show 0 + 1 * t.val = t.val; omega)

/-- An index of a tile is a row and a column. -/
theorem ex_t (y : S256x256.Idx) : ∃ a b : Fin 256, y = ix2 a b :=
  ⟨y 0, y 1, funext fun a => by
    match a with
    | ⟨0, _⟩ => rfl
    | ⟨1, _⟩ => rfl⟩

/-- An index of a tile's byte rows is a block and a row. -/
theorem ex_r (y : S8x256.Idx) : ∃ (a : Fin 8) (b : Fin 256), y = ix2 a b :=
  ⟨y 0, y 1, funext fun a => by
    match a with
    | ⟨0, _⟩ => rfl
    | ⟨1, _⟩ => rfl⟩

variable (c : Dev nD) (i : grid1.Coords) (arg1 : Memref sig .tc .vmem S256x8192 .bf16) (harg1 : arg1.IsWhole) (arg2 : Memref sig .tc .vmem S8192x2048 .bf16) (harg2 : arg2.IsWhole) (arg3 : Memref sig .tc .vmem S256x2048 .bf16) (harg3 : arg3.IsWhole) (arg4 : Memref sig .tc .vmem S256x8192 .fp8e5m2) (harg4 : arg4.IsWhole) (arg5 : Memref sig .tc .vmem S256x256 .i8) (harg5 : arg5.IsWhole) (arg6 : Memref sig .tc .vmem S256x8192 .bf16) (harg6 : arg6.IsWhole) (arg7 : Memref sig .tc .vmem S256x256 .f32) (harg7 : arg7.IsWhole)
    (x0 : Vec Ideal S256x8192 .bf16) (x1 : Vec Ideal S8192x2048 .bf16)

/-- A block of a tile is a block of the input block. -/
theorem tileBlk_eq (j : Fin 32) (t : Fin 256) (b : Fin 8) (B : Fin 256) (hB : B.val = 8 * j.val + b.val) :
    tileBlk (tileAt arg1 harg1 x0 j) t b = blkAt x0 t B := funext fun k => by
  unfold tileBlk blkAt
  rw [tileAt_apply]
  refine congrArg (fun z => x0 (ix2 t z)) (Fin.ext ?_)
  show 256 * j.val + (32 * b.val + k.val) = 32 * B.val + k.val
  omega

/-- Every element of a tile is a bf16 number. -/
theorem tile_good (hx : ∀ y, Good (x0 y)) (j : Fin 32) (y : S256x256.Idx) : Good (tileAt arg1 harg1 x0 j y) := by
  obtain ⟨a, b, rfl⟩ := ex_t y
  exact (congrArg Good (tileAt_apply arg1 harg1 x0 j a b)).mpr (hx _)

/-- The codes left, at an index. -/
theorem out3_apply (hx : ∀ y, Good (x0 y)) (t : Fin 256) (n : Fin 8192) :
    out1_A_3 (F := Ideal) c i arg1 harg1 arg2 harg2 arg3 harg3 arg4 harg4 arg5 harg5 arg6 harg6 arg7 harg7 x0 x1 (ix2 t n) = codeV (blkAt x0 t (blkC n)) (x0 (ix2 t n)) := by
  unfold out1_A_3
  rw [View.read_writes_eq_canon _ _ _ (cover1_A_3 (F := Ideal) c i arg1 harg1 arg2 harg2 arg3 harg3 arg4 harg4 arg5 harg5 arg6 harg6 arg7 harg7 x0 x1)]
  refine (View.canon_apply_of_pieces (fun y : S256x8192.Idx => codeV (blkAt x0 (y 0) (blkC (y 1))) (x0 y)) _ ?_ (ix2 t n)
    (cover1_A_3 (F := Ideal) c i arg1 harg1 arg2 harg2 arg3 harg3 arg4 harg4 arg5 harg5 arg6 harg6 arg7 harg7 x0 x1 (ix2 t n))).trans rfl
  rw [codes_eq]
  intro p hp
  obtain ⟨j, -, rfl⟩ := List.mem_map.mp hp
  intro (y : S256x256.Idx)
  obtain ⟨a, b, rfl⟩ := ex_t y
  refine Eq.trans ?_ (congrArg (fun y : S256x8192.Idx => codeV (blkAt x0 (y 0) (blkC (y 1))) (x0 y)) (embC j a b).symm)
  refine (tile_code _ (tile_good arg1 harg1 x0 hx j) a b (⟨b.val / 32, by omega⟩ : Fin 8) rfl).trans ?_
  rw [tileAt_apply, tileBlk_eq arg1 harg1 x0 j a _ (blkC (⟨256 * j.val + b.val, by omega⟩ : Fin 8192))
    (by show (256 * j.val + b.val) / 32 = 8 * j.val + b.val / 32; omega)]

/-- The decoded values the scratch array holds, at an index. -/
theorem d_apply (hx : ∀ y, Good (x0 y)) (t : Fin 256) (n : Fin 8192) :
    kernelRun1_A.sl.v3813 (F := Ideal) c arg1 harg1 arg6 x0 (ix2 t n) = deqV (blkAt x0 t (blkC n)) (x0 (ix2 t n)) := by
  unfold kernelRun1_A.sl.v3813
  rw [View.readCov_eq_canon_ld _ _ _ (ds_cover c arg1 harg1 x0), View.ld_unit_zero off0]
  refine (View.canon_apply_of_pieces (fun y : S256x8192.Idx => deqV (blkAt x0 (y 0) (blkC (y 1))) (x0 y)) _ ?_ (ix2 t n)
    (ds_cover c arg1 harg1 x0 (ix2 t n))).trans rfl
  rw [ds_eq]
  intro p hp
  obtain ⟨j, -, rfl⟩ := List.mem_map.mp hp
  intro (y : S256x256.Idx)
  obtain ⟨a, b, rfl⟩ := ex_t y
  refine Eq.trans ?_ (congrArg (fun y : S256x8192.Idx => deqV (blkAt x0 (y 0) (blkC (y 1))) (x0 y)) (embC j a b).symm)
  refine (tile_d _ (tile_good arg1 harg1 x0 hx j) a b (⟨b.val / 32, by omega⟩ : Fin 8) rfl).trans ?_
  rw [tileAt_apply, tileBlk_eq arg1 harg1 x0 j a _ (blkC (⟨256 * j.val + b.val, by omega⟩ : Fin 8192))
    (by show (256 * j.val + b.val) / 32 = 8 * j.val + b.val / 32; omega)]

/-- The byte rows the scratch array holds, at an index. -/
theorem rows_apply (b t : Fin 256) :
    kernelRun1_A.sl.v3808 (F := Ideal) c arg1 harg1 arg7 x0 (ix2 b t)
      = FloatOps.sitofp (F := Ideal) .f32 (BitVec.ofNat 32 (scaleN (blkAt x0 t b))) := by
  unfold kernelRun1_A.sl.v3808
  rw [View.readCov_eq_canon_ld _ _ _ (rows_cover c arg1 harg1 x0), View.ld_unit_zero off0]
  refine (View.canon_apply_of_pieces (fun y : S256x256.Idx =>
    FloatOps.sitofp (F := Ideal) .f32 (BitVec.ofNat 32 (scaleN (blkAt x0 (y 1) (y 0))))) _ ?_ (ix2 b t)
    (rows_cover c arg1 harg1 x0 (ix2 b t))).trans rfl
  rw [rows_eq]
  intro p hp
  obtain ⟨j, -, rfl⟩ := List.mem_map.mp hp
  intro (y : S8x256.Idx)
  obtain ⟨a, b, rfl⟩ := ex_r y
  refine Eq.trans ?_ (congrArg (fun y : S256x256.Idx => FloatOps.sitofp (F := Ideal) .f32 (BitVec.ofNat 32 (scaleN (blkAt x0 (y 1) (y 0))))) (embR j a b).symm)
  refine (tile_row _ a b).trans ?_
  rw [tileBlk_eq arg1 harg1 x0 j b a (⟨8 * j.val + a.val, by omega⟩ : Fin 256) rfl]

/-- The scale bytes left, at an index. -/
theorem out4_apply (t b : Fin 256) :
    out1_A_4 (F := Ideal) c i arg1 harg1 arg2 harg2 arg3 harg3 arg4 harg4 arg5 harg5 arg6 harg6 arg7 harg7 x0 x1 (ix2 t b) = BitVec.ofNat 8 (scaleN (blkAt x0 t b)) := by
  unfold out1_A_4
  rw [View.read_writes_eq_canon _ _ _ (cover1_A_4 (F := Ideal) c i arg1 harg1 arg2 harg2 arg3 harg3 arg4 harg4 arg5 harg5 arg6 harg6 arg7 harg7 x0 x1), bytes_eq, View.canon_unit_zero off0]
  unfold k1_pay367
  refine (congrArg (fun z : EReal => (Ideal.fptosi 32 z).setWidth 8)
    ((tile_transpose (kernelRun1_A.sl.v3808 (F := Ideal) c arg1 harg1 arg7 x0) transposes_S256x256_p1_0_S256x256 t b).trans
      (rows_apply c arg1 harg1 arg7 x0 b t))).trans ?_
  exact kThrough _ (scaleN_lt _)

/-- The block of the activation gradient left, at an index. -/
theorem out2_apply (hx : ∀ y, Good (x0 y)) (t : Fin 256) (k : Fin 2048) :
    out1_A_2 (F := Ideal) c i arg1 harg1 arg2 harg2 arg3 harg3 arg4 harg4 arg5 harg5 arg6 harg6 arg7 harg7 x0 x1 (ix2 t k)
      = ∑ n : Fin 8192, deqV (blkAt x0 t (blkC n)) (x0 (ix2 t n)) * (x1 (ix2 n k) : EReal) := by
  unfold out1_A_2
  rw [View.read_writes_eq_canon _ _ _ (cover1_A_2 (F := Ideal) c i arg1 harg1 arg2 harg2 arg3 harg3 arg4 harg4 arg5 harg5 arg6 harg6 arg7 harg7 x0 x1), dx_eq, View.canon_unit_zero off0]
  refine (dgrad_apply _ _ t k).trans (Finset.sum_congr rfl fun n _ => congrArg₂ (· * ·) (d_apply c arg1 harg1 arg6 x0 hx t n) ?_)
  rw [View.readAt_apply, harg2.read_unread]
  refine congrArg x1 (funext fun a => Fin.ext ?_)
  match a with
  | ⟨0, _⟩ => show 0 + 1 * n.val = n.val; omega
  | ⟨1, _⟩ => show 0 + 1 * k.val = k.val; omega

end Cert.DgradRun
-- ==== Proof.Spec.lean ====
/- What the six results are, at an index, as plain mathematics on extended reals: the blocks of `dy` along its rows and
   along its columns, the codes and scale bytes of both quantisations, and the two products of decoded values. -/
module

public import proofs.«01_k».proof.Proof.Scale
public import Idealize.ShloMosaic.Lib.ValueIdx

@[expose] public section

noncomputable section

namespace Cert.Mx

open Idealize.ShloMosaic Idealize.ShloMosaic.ValueIdx

/-- The index type of `dy` and of its codes. -/
abbrev IDy := (⟨3, ![32, 512, 8192]⟩ : Shape).Idx
/-- The index type of `x` and of the activation gradient. -/
abbrev IX := (⟨3, ![32, 512, 2048]⟩ : Shape).Idx
/-- The index type of the weights and of the weight gradient. -/
abbrev IW := (⟨2, ![8192, 2048]⟩ : Shape).Idx
/-- The index type of the scale bytes of `x`. -/
abbrev IXs := (⟨3, ![32, 16, 2048]⟩ : Shape).Idx
/-- The index type of the scale bytes of the weights. -/
abbrev IWs := (⟨2, ![256, 2048]⟩ : Shape).Idx

/-- Block `b` of row `(s, t)`: 32 neighbours along the columns. -/
def rowBlk (X : IDy → EReal) (s : Fin 32) (t : Fin 512) (b : Fin 256) : Fin 32 → EReal :=
  fun k => X (ix3 s t (⟨32 * b.val + k.val, by omega⟩ : Fin 8192))

/-- Block `g` of column `n` in slab `s`: 32 neighbours along the rows. -/
def colBlk (X : IDy → EReal) (s : Fin 32) (g : Fin 16) (n : Fin 8192) : Fin 32 → EReal :=
  fun k => X (ix3 s (⟨32 * g.val + k.val, by omega⟩ : Fin 512) n)

/-- The block of columns that column `n` lies in. -/
abbrev blkN (n : Fin 8192) : Fin 256 := ⟨n.val / 32, by omega⟩
/-- The block of rows that row `t` of a slab lies in. -/
abbrev blkT (t : Fin 512) : Fin 16 := ⟨t.val / 32, by omega⟩

/-- A row code. -/
def rowCode (X : IDy → EReal) (s : Fin 32) (t : Fin 512) (n : Fin 8192) : EReal :=
  codeV (rowBlk X s t (blkN n)) (X (ix3 s t n))

/-- A row scale byte. -/
def rowByte (X : IDy → EReal) (s : Fin 32) (t : Fin 512) (b : Fin 256) : BitVec 8 :=
  BitVec.ofNat 8 (scaleN (rowBlk X s t b))

/-- A column code. -/
def colCodeS (X : IDy → EReal) (s : Fin 32) (t : Fin 512) (n : Fin 8192) : EReal :=
  codeV (colBlk X s (blkT t) n) (X (ix3 s t n))

/-- A column scale byte. -/
def colByteS (X : IDy → EReal) (s : Fin 32) (g : Fin 16) (n : Fin 8192) : BitVec 8 :=
  BitVec.ofNat 8 (scaleN (colBlk X s g n))

/-- A value of `dy` decoded from its row code. -/
def rowDeq (X : IDy → EReal) (s : Fin 32) (t : Fin 512) (n : Fin 8192) : EReal :=
  deqV (rowBlk X s t (blkN n)) (X (ix3 s t n))

/-- A value of `dy` decoded from its column code. -/
def colDeq (X : IDy → EReal) (s : Fin 32) (t : Fin 512) (n : Fin 8192) : EReal :=
  deqV (colBlk X s (blkT t) n) (X (ix3 s t n))

/-- A decoded weight. -/
def wDeq (w : IW → EReal) (ws : IWs → BitVec 8) (n : Fin 8192) (k : Fin 2048) : EReal :=
  w (ix2 n k) * pw (ws (ix2 (blkN n) k)).toNat

/-- A decoded value of `x`. -/
def xDeq (x : IX → EReal) (xs : IXs → BitVec 8) (s : Fin 32) (t : Fin 512) (k : Fin 2048) : EReal :=
  x (ix3 s t k) * pw (xs (ix3 s (blkT t) k)).toNat

/-- The activation gradient. -/
def dxS (X : IDy → EReal) (w : IW → EReal) (ws : IWs → BitVec 8) (s : Fin 32) (t : Fin 512) (k : Fin 2048) : EReal :=
  ∑ n : Fin 8192, rowDeq X s t n * wDeq w ws n k

/-- The slab of global row `T`. -/
abbrev slab (T : Fin 16384) : Fin 32 := ⟨T.val / 512, by omega⟩
/-- The row within its slab of global row `T`. -/
abbrev slot (T : Fin 16384) : Fin 512 := ⟨T.val % 512, by omega⟩

/-- The main gradient after the weight gradient is added. -/
def mgS (X : IDy → EReal) (x : IX → EReal) (xs : IXs → BitVec 8) (mg : IW → EReal) (n : Fin 8192) (k : Fin 2048) : EReal :=
  mg (ix2 n k) + ∑ T : Fin 16384, colDeq X (slab T) (slot T) n * xDeq x xs (slab T) (slot T) k

end Cert.Mx
-- ==== Proof.Windows.lean ====
/- Where each window's block lies in its array, for the three calls. -/
module

public import proofs.«01_k».proof.Proof.Gen.KernelIdeal.Frame
public import proofs.«01_k».proof.Proof.Spec
public import Idealize.ShloMosaic.Lib.Pipeline.Value
public import Idealize.ShloMosaic.Lib.Pipeline.ValueKit

@[expose] public section

noncomputable section

namespace Cert.Arrays

open Idealize.ShloMosaic hiding ix2 ix3 ix4
open Idealize.ShloMosaic.TcCoe Idealize.ShloMosaic.Tactic
open Idealize.ShloMosaic.ValueIdx Cert.KernelIdeal Cert.KernelIdeal.Gen Cert.Mx

/-- A rank-2 index is its two coordinates. -/
theorem ex2 {n0 n1 : ℕ} (y : (⟨2, ![n0, n1]⟩ : Shape).Idx) : ∃ (a : Fin n0) (b : Fin n1), y = ix2 a b := ⟨y 0, y 1, ValueIdx.eq_ix2 y⟩

/-- A rank-3 index is its three coordinates. -/
theorem ex3 {n0 n1 n2 : ℕ} (y : (⟨3, ![n0, n1, n2]⟩ : Shape).Idx) : ∃ (a : Fin n0) (b : Fin n1) (d : Fin n2), y = ix3 a b d :=
  ⟨y 0, y 1, y 2, ValueIdx.eq_ix3 y⟩

/-- Offsets that are zero. -/
theorem off0 : (![0, 0] : Fin 2 → Nat) = fun _ => 0 := funext fun a => by
  match a with
  | ⟨0, _⟩ => rfl
  | ⟨1, _⟩ => rfl

/-- The global index of local index `a` in block `q` of size `s`. -/
abbrev at' {n s N : ℕ} (q : ℕ) (hq : q < n) (hN : N = n * s) (a : Fin s) : Fin N :=
  ⟨q * s + a.val, by subst hN; have := a.isLt; calc q * s + a.val < q * s + s := by omega
                      _ = (q + 1) * s := by rw [Nat.add_mul, Nat.one_mul]
                      _ ≤ n * s := Nat.mul_le_mul_right s hq⟩

/-- Window 0 of call 0: its block at a point. -/
theorem ix0_0 : ∀ t : Fin cfg0.N, win0_0.index t = ![t.val, 0] := (by decide +kernel : ∀ t : Fin grid0.N, win0_0.index t = ![t.val, 0])
/-- Window 0 of call 0: an index of its block, in its array. -/
theorem emb0_0 (t : Fin cfg0.N) (a : Fin 1024) (b : Fin 2048) : (win0_0.blk t).view.emb (ix2 a b) = ix2 (at' (n := 8) (N := 8192) t.val t.isLt rfl a) b := by
  blk_ext [ix0_0]

/-- Window 1 of call 0: its block at a point. -/
theorem ix0_1 : ∀ t : Fin cfg0.N, win0_1.index t = ![t.val, 0] := (by decide +kernel : ∀ t : Fin grid0.N, win0_1.index t = ![t.val, 0])
/-- Window 1 of call 0: an index of its block, in its array. -/
theorem emb0_1 (t : Fin cfg0.N) (a : Fin 32) (b : Fin 2048) : (win0_1.blk t).view.emb (ix2 a b) = ix2 (at' (n := 8) (N := 256) t.val t.isLt rfl a) b := by
  blk_ext [ix0_1]

/-- Window 2 of call 0: its block at a point. -/
theorem ix0_2 : ∀ t : Fin cfg0.N, win0_2.index t = ![t.val, 0] := (by decide +kernel : ∀ t : Fin grid0.N, win0_2.index t = ![t.val, 0])
/-- Window 2 of call 0: an index of its block, in its array. -/
theorem emb0_2 (t : Fin cfg0.N) (a : Fin 1024) (b : Fin 2048) : (win0_2.blk t).view.emb (ix2 a b) = ix2 (at' (n := 8) (N := 8192) t.val t.isLt rfl a) b := by
  blk_ext [ix0_2]

/-- Window 0 of call 1: its block at a point. -/
theorem ix1_0 : ∀ t : Fin cfg1.N, win1_0.index t = ![t.val, 0] := (by decide +kernel : ∀ t : Fin grid1.N, win1_0.index t = ![t.val, 0])
/-- Window 0 of call 1: an index of its block, in its array. -/
theorem emb1_0 (t : Fin cfg1.N) (a : Fin 256) (b : Fin 8192) : (win1_0.blk t).view.emb (ix2 a b) = ix2 (at' (n := 64) (N := 16384) t.val t.isLt rfl a) b := by
  blk_ext [ix1_0]

/-- Window 1 of call 1: its block at a point. -/
theorem ix1_1 : ∀ t : Fin cfg1.N, win1_1.index t = ![0, 0] := (by decide +kernel : ∀ t : Fin grid1.N, win1_1.index t = ![0, 0])
/-- Window 1 of call 1: an index of its block, in its array. -/
theorem emb1_1 (t : Fin cfg1.N) (a : Fin 8192) (b : Fin 2048) : (win1_1.blk t).view.emb (ix2 a b) = ix2 a b := by
  blk_ext [ix1_1]

/-- Window 2 of call 1: its block at a point. -/
theorem ix1_2 : ∀ t : Fin cfg1.N, win1_2.index t = ![t.val, 0] := (by decide +kernel : ∀ t : Fin grid1.N, win1_2.index t = ![t.val, 0])
/-- Window 2 of call 1: an index of its block, in its array. -/
theorem emb1_2 (t : Fin cfg1.N) (a : Fin 256) (b : Fin 2048) : (win1_2.blk t).view.emb (ix2 a b) = ix2 (at' (n := 64) (N := 16384) t.val t.isLt rfl a) b := by
  blk_ext [ix1_2]

/-- Window 3 of call 1: its block at a point. -/
theorem ix1_3 : ∀ t : Fin cfg1.N, win1_3.index t = ![t.val, 0] := (by decide +kernel : ∀ t : Fin grid1.N, win1_3.index t = ![t.val, 0])
/-- Window 3 of call 1: an index of its block, in its array. -/
theorem emb1_3 (t : Fin cfg1.N) (a : Fin 256) (b : Fin 8192) : (win1_3.blk t).view.emb (ix2 a b) = ix2 (at' (n := 64) (N := 16384) t.val t.isLt rfl a) b := by
  blk_ext [ix1_3]

/-- Window 4 of call 1: its block at a point. -/
theorem ix1_4 : ∀ t : Fin cfg1.N, win1_4.index t = ![t.val, 0] := (by decide +kernel : ∀ t : Fin grid1.N, win1_4.index t = ![t.val, 0])
/-- Window 4 of call 1: an index of its block, in its array. -/
theorem emb1_4 (t : Fin cfg1.N) (a : Fin 256) (b : Fin 256) : (win1_4.blk t).view.emb (ix2 a b) = ix2 (at' (n := 64) (N := 16384) t.val t.isLt rfl a) b := by
  blk_ext [ix1_4]

/-- Window 0 of call 2: its block at a point. -/
theorem ix2_0 : ∀ t : Fin cfg2.N, win2_0.index t = ![t.val % 16, t.val / 16] := (by decide +kernel : ∀ t : Fin grid2.N, win2_0.index t = ![t.val % 16, t.val / 16])
/-- Window 0 of call 2: an index of its block, in its array. -/
theorem emb2_0 (t : Fin cfg2.N) (a : Fin 1024) (b : Fin 1024) : (win2_0.blk t).view.emb (ix2 a b) = ix2 (at' (n := 16) (N := 16384) (t.val % 16) (Nat.mod_lt _ (by decide)) rfl a) (at' (n := 8) (N := 8192) (t.val / 16) (Nat.div_lt_of_lt_mul (n := 16) (k := 8) t.isLt) rfl b) := by
  blk_ext [ix2_0]

/-- Window 1 of call 2: its block at a point. -/
theorem ix2_1 : ∀ t : Fin cfg2.N, win2_1.index t = ![t.val % 16, 0] := (by decide +kernel : ∀ t : Fin grid2.N, win2_1.index t = ![t.val % 16, 0])
/-- Window 1 of call 2: an index of its block, in its array. -/
theorem emb2_1 (t : Fin cfg2.N) (a : Fin 1024) (b : Fin 2048) : (win2_1.blk t).view.emb (ix2 a b) = ix2 (at' (n := 16) (N := 16384) (t.val % 16) (Nat.mod_lt _ (by decide)) rfl a) b := by
  blk_ext [ix2_1]

/-- Window 2 of call 2: its block at a point. -/
theorem ix2_2 : ∀ t : Fin cfg2.N, win2_2.index t = ![t.val % 16, 0, 0] := (by decide +kernel : ∀ t : Fin grid2.N, win2_2.index t = ![t.val % 16, 0, 0])
/-- Window 2 of call 2: an index of its block, in its array. -/
theorem emb2_2 (t : Fin cfg2.N) (a : Fin 2) (b : Fin 16) (d : Fin 2048) : (win2_2.blk t).view.emb (ix3 a b d) = ix3 (at' (n := 16) (N := 32) (t.val % 16) (Nat.mod_lt _ (by decide)) rfl a) b d := by
  blk_ext [ix2_2]

/-- Window 3 of call 2: its block at a point. -/
theorem ix2_3 : ∀ t : Fin cfg2.N, win2_3.index t = ![t.val / 16, 0] := (by decide +kernel : ∀ t : Fin grid2.N, win2_3.index t = ![t.val / 16, 0])
/-- Window 3 of call 2: an index of its block, in its array. -/
theorem emb2_3 (t : Fin cfg2.N) (a : Fin 1024) (b : Fin 2048) : (win2_3.blk t).view.emb (ix2 a b) = ix2 (at' (n := 8) (N := 8192) (t.val / 16) (Nat.div_lt_of_lt_mul (n := 16) (k := 8) t.isLt) rfl a) b := by
  blk_ext [ix2_3]

/-- Window 4 of call 2: its block at a point. -/
theorem ix2_4 : ∀ t : Fin cfg2.N, win2_4.index t = ![t.val / 16, 0] := (by decide +kernel : ∀ t : Fin grid2.N, win2_4.index t = ![t.val / 16, 0])
/-- Window 4 of call 2: an index of its block, in its array. -/
theorem emb2_4 (t : Fin cfg2.N) (a : Fin 1024) (b : Fin 2048) : (win2_4.blk t).view.emb (ix2 a b) = ix2 (at' (n := 8) (N := 8192) (t.val / 16) (Nat.div_lt_of_lt_mul (n := 16) (k := 8) t.isLt) rfl a) b := by
  blk_ext [ix2_4]

/-- Window 5 of call 2: its block at a point. -/
theorem ix2_5 : ∀ t : Fin cfg2.N, win2_5.index t = ![t.val % 16, t.val / 16] := (by decide +kernel : ∀ t : Fin grid2.N, win2_5.index t = ![t.val % 16, t.val / 16])
/-- Window 5 of call 2: an index of its block, in its array. -/
theorem emb2_5 (t : Fin cfg2.N) (a : Fin 1024) (b : Fin 1024) : (win2_5.blk t).view.emb (ix2 a b) = ix2 (at' (n := 16) (N := 16384) (t.val % 16) (Nat.mod_lt _ (by decide)) rfl a) (at' (n := 8) (N := 8192) (t.val / 16) (Nat.div_lt_of_lt_mul (n := 16) (k := 8) t.isLt) rfl b) := by
  blk_ext [ix2_5]

/-- Window 6 of call 2: its block at a point. -/
theorem ix2_6 : ∀ t : Fin cfg2.N, win2_6.index t = ![t.val % 16, 0, t.val / 16] := (by decide +kernel : ∀ t : Fin grid2.N, win2_6.index t = ![t.val % 16, 0, t.val / 16])
/-- Window 6 of call 2: an index of its block, in its array. -/
theorem emb2_6 (t : Fin cfg2.N) (a : Fin 2) (b : Fin 16) (d : Fin 1024) : (win2_6.blk t).view.emb (ix3 a b d) = ix3 (at' (n := 16) (N := 32) (t.val % 16) (Nat.mod_lt _ (by decide)) rfl a) b (at' (n := 8) (N := 8192) (t.val / 16) (Nat.div_lt_of_lt_mul (n := 16) (k := 8) t.isLt) rfl d) := by
  blk_ext [ix2_6]

end Cert.Arrays
-- ==== Proof.Arrays.lean ====
/- What the first two calls leave in their result arrays, from the arrays they find: the decoded weights, the row
   quantisation and the activation gradient. -/
module

public import proofs.«01_k».proof.Proof.DgradVal
public import proofs.«01_k».proof.Proof.Windows
public import proofs.«01_k».proof.Proof.Spec
public import Idealize.ShloMosaic.Lib.Pipeline.Value
public import Idealize.ShloMosaic.Lib.Pipeline.ValueKit

@[expose] public section

noncomputable section

namespace Cert.Arrays

open Idealize.ShloMosaic hiding ix2 ix3 ix4
open Idealize.ShloMosaic.TcCoe Idealize.ShloMosaic.Tactic
open Idealize.ShloMosaic.ValueIdx Cert.KernelIdeal Cert.KernelIdeal.Gen Cert.Mx

variable (V : (c : Dev nD) → (r : Ref sig .tc) → Buf (Elt Ideal) ((c.tc : Thread nD τ).loc r))

/-- The decoded weights' array. -/
abbrev wArr (w : IW → EReal) (ws : IWs → BitVec 8) : S8192x2048.Idx → EReal := fun y => wDeq w ws (y 0) (y 1)

/-- The first call leaves the decoded weights. -/
theorem final0 (c : Dev nD) : (dat0 (F := Ideal) V c).arrAt 2 cfg0.N = wArr (V c main_arg3) (V c main_arg4) := by
  refine (dat0 (F := Ideal) V c).arrAt_eq_of_covers 2 _ (by decide +kernel) fun t hf y => ?_
  have ht : t.val < 8 := t.isLt
  obtain ⟨a, b, rfl⟩ : ∃ (a : Fin 1024) (b : Fin 2048), y = ix2 a b := ex2 y
  blk_simp
  rw [after0_2]
  unfold out0_2
  rw [View.canon_unit_zero off0, View.ld_unit_zero off0, View.ld_unit_zero off0]
  refine (wdeq_apply _ _ a b (⟨a.val / 32, by omega⟩ : Fin 32) rfl).trans ?_
  blk_simp [iblk0]
  rw [emb0_0, emb0_1, emb0_2]
  refine congrArg (fun z => _ * pw (V c main_arg4 (ix2 z b)).toNat) (Fin.ext ?_)
  show t.val * 32 + a.val / 32 = (t.val * 1024 + a.val) / 32
  omega

/-- Block `b` of row `T` of a `16384 x 8192` array. -/
def rBlk (D : S16384x8192.Idx → EReal) (T : Fin 16384) (b : Fin 256) : Fin 32 → EReal :=
  fun k => D (ix2 T (⟨32 * b.val + k.val, by omega⟩ : Fin 8192))

/-- The activation gradient as the second call leaves it. -/
abbrev dxArr (D : S16384x8192.Idx → EReal) (W : S8192x2048.Idx → EReal) : S16384x2048.Idx → EReal := fun y =>
  ∑ n : Fin 8192, deqV (rBlk D (y 0) (blkN n)) (D (ix2 (y 0) n)) * W (ix2 n (y 1))

/-- The row codes as the second call leaves them. -/
abbrev rcArr (D : S16384x8192.Idx → EReal) : S16384x8192.Idx → EReal := fun y =>
  codeV (rBlk D (y 0) (blkN (y 1))) (D y)

/-- The row scale bytes as the second call leaves them. -/
abbrev rbArr (D : S16384x8192.Idx → EReal) : S16384x256.Idx → BitVec 8 := fun y => BitVec.ofNat 8 (scaleN (rBlk D (y 0) (y 1)))

/-- A block of the point's rows of `dy` is a block of `dy`. -/
theorem rBlk_eq (c : Dev nD) (t : Fin cfg1.N) (a b : Fin 256) :
    DgradRun.blkAt (iblk1 (F := Ideal) V c 0 t) a b = rBlk (V c main_v0) (at' (n := 64) (N := 16384) t.val t.isLt rfl a) b := funext fun k => by
  unfold DgradRun.blkAt rBlk
  blk_simp [iblk1]
  rw [emb1_0]

/-- The second call leaves the activation gradient. -/
theorem final1_2 (c : Dev nD) (hD : ∀ y, Good (V c main_v0 y)) :
    (dat1 (F := Ideal) V c).arrAt 2 cfg1.N = dxArr (V c main_v0) (V c main_v2) := by
  refine (dat1 (F := Ideal) V c).arrAt_eq_of_covers 2 _ (by decide +kernel) fun t hf y => ?_
  obtain ⟨a, b, rfl⟩ : ∃ (a : Fin 256) (b : Fin 2048), y = ix2 a b := ex2 y
  blk_simp
  rw [after1_2, emb1_2]
  unfold outsAt1
  dsimp only
  refine (DgradRun.out2_apply (x0 := iblk1 V c 0 t) (hx := fun y => hD _) (t := a) (k := b) ..).trans ?_
  refine Finset.sum_congr rfl fun n _ => ?_
  rw [rBlk_eq]
  blk_simp [iblk1]
  rw [emb1_0, emb1_1]

/-- The second call leaves the row codes. -/
theorem final1_3 (c : Dev nD) (hD : ∀ y, Good (V c main_v0 y)) :
    (dat1 (F := Ideal) V c).arrAt 3 cfg1.N = rcArr (V c main_v0) := by
  refine (dat1 (F := Ideal) V c).arrAt_eq_of_covers 3 _ (by decide +kernel) fun t hf y => ?_
  obtain ⟨a, b, rfl⟩ : ∃ (a : Fin 256) (b : Fin 8192), y = ix2 a b := ex2 y
  blk_simp
  rw [after1_3, emb1_3]
  unfold outsAt1
  dsimp only
  refine (DgradRun.out3_apply (x0 := iblk1 V c 0 t) (hx := fun y => hD _) (t := a) (n := b) ..).trans ?_
  rw [rBlk_eq]
  blk_simp [iblk1]
  rw [emb1_0]

/-- The second call leaves the row scale bytes. -/
theorem final1_4 (c : Dev nD) : (dat1 (F := Ideal) V c).arrAt 4 cfg1.N = rbArr (V c main_v0) := by
  refine (dat1 (F := Ideal) V c).arrAt_eq_of_covers 4 _ (by decide +kernel) fun t hf y => ?_
  obtain ⟨a, b, rfl⟩ : ∃ (a : Fin 256) (b : Fin 256), y = ix2 a b := ex2 y
  blk_simp
  rw [after1_4, emb1_4]
  unfold outsAt1
  dsimp only
  refine (DgradRun.out4_apply (t := a) (b := b) ..).trans ?_
  rw [rBlk_eq]

end Cert.Arrays
-- ==== Proof.WgradRun.lean ====
/- What one run of the third call's body leaves in its output blocks: the codes, byte rows and products of the two row
   blocks of its grid point. -/
module

public import proofs.«01_k».proof.Proof.Gen.KernelIdeal.Frame
public import proofs.«01_k».proof.Proof.Products
public import Idealize.ShloMosaic.Lib.Pipeline.Value

@[expose] public section

noncomputable section

namespace Cert.WgradRun

open Idealize.ShloMosaic hiding ix2 ix3 ix4
open Idealize.ShloMosaic.TcCoe Idealize.ShloMosaic.Tactic
open Idealize.ShloMosaic.ValueIdx Cert.KernelIdeal Cert.KernelIdeal.Gen Cert.Mx

/-- Row block `j` lies inside the block of `dy`. -/
theorem inbV (j : Fin 2) : ∀ a, (![512 * j.val, 0] : Fin 2 → Nat) a + S512x1024.size a ≤ S1024x1024.size a := fun a => by
  match a with
  | ⟨0, _⟩ => show 512 * j.val + 512 ≤ 1024; omega
  | ⟨1, _⟩ => show 0 + 1024 ≤ 1024; omega

/-- Row block `j` lies inside the block of `x`. -/
theorem inbX (j : Fin 2) : ∀ a, (![512 * j.val, 0] : Fin 2 → Nat) a + S512x2048.size a ≤ S1024x2048.size a := fun a => by
  match a with
  | ⟨0, _⟩ => show 512 * j.val + 512 ≤ 1024; omega
  | ⟨1, _⟩ => show 0 + 2048 ≤ 2048; omega

/-- The byte rows of row block `j` lie inside the block of `x`'s bytes. -/
theorem inbS (j : Fin 2) : ∀ a, (![j.val, 0, 0] : Fin 3 → Nat) a + S1x16x2048.size a ≤ S2x16x2048.size a := fun a => by
  match a with
  | ⟨0, _⟩ => show j.val + 1 ≤ 2; omega
  | ⟨1, _⟩ => show 0 + 16 ≤ 16; omega
  | ⟨2, _⟩ => show 0 + 2048 ≤ 2048; omega

/-- The byte rows of row block `j` lie inside the stored block. -/
theorem inbB (j : Fin 2) : ∀ a, (![j.val, 0, 0] : Fin 3 → Nat) a + S1x16x1024.size a ≤ S2x16x1024.size a := fun a => by
  match a with
  | ⟨0, _⟩ => show j.val + 1 ≤ 2; omega
  | ⟨1, _⟩ => show 0 + 16 ≤ 16; omega
  | ⟨2, _⟩ => show 0 + 1024 ≤ 1024; omega

/-- Row block `j` of `dy`'s block, as the body loads it. -/
def vAt (arg2 : Memref sig .tc .vmem S1024x1024 .bf16) (harg2 : arg2.IsWhole) (x0 : Vec Ideal S1024x1024 .bf16) (j : Fin 2) :
    FVec Ideal S512x1024 .bf16 :=
  View.readAt (Elt Ideal) arg2.view (Rect.unit (s := S1024x1024) ![512 * j.val, 0] S512x1024.size (inbV j)).toLoadRect (harg2.unread x0)

/-- Row block `j` of `x`'s block, as the body loads it. -/
def xAt (arg3 : Memref sig .tc .vmem S1024x2048 .fp8e4m3) (harg3 : arg3.IsWhole) (x1 : Vec Ideal S1024x2048 .fp8e4m3) (j : Fin 2) :
    FVec Ideal S512x2048 .fp8e4m3 :=
  View.readAt (Elt Ideal) arg3.view (Rect.unit (s := S1024x2048) ![512 * j.val, 0] S512x2048.size (inbX j)).toLoadRect (harg3.unread x1)

/-- The byte rows of row block `j` of `x`, as the body loads them. -/
def sAt (arg4 : Memref sig .tc .vmem S2x16x2048 .i8) (harg4 : arg4.IsWhole) (x2 : Vec Ideal S2x16x2048 .i8) (j : Fin 2) :
    IVec S1x16x2048 8 :=
  View.readAt (Elt Ideal) arg4.view (Rect.unit (s := S2x16x2048) ![j.val, 0, 0] S1x16x2048.size (inbS j)).toLoadRect (harg4.unread x2)

/-- A block of f32 accumulators, as the body loads it whole. -/
def wholeAt (a : Memref sig .tc .vmem S1024x2048 .f32) (ha : a.IsWhole) (y : Vec Ideal S1024x2048 .f32) : Vec Ideal S1024x2048 .f32 :=
  View.readAt (Elt Ideal) a.view (Rect.unit (s := S1024x2048) ![0, 0] S1024x2048.size inb_S1024x2048_S1024x2048_0_0).toLoadRect (ha.unread y)

/-- Offsets that are zero. -/
theorem off0 : (![0, 0] : Fin 2 → Nat) = fun _ => 0 := funext fun a => by
  match a with
  | ⟨0, _⟩ => rfl
  | ⟨1, _⟩ => rfl

/-- A loaded row block of `dy`, at an index. -/
theorem vAt_apply (arg2 : Memref sig .tc .vmem S1024x1024 .bf16) (harg2 : arg2.IsWhole) (x0 : Vec Ideal S1024x1024 .bf16) (j : Fin 2) (t : Fin 512) (n : Fin 1024) :
    vAt arg2 harg2 x0 j (ix2 t n) = x0 (ix2 (⟨512 * j.val + t.val, by omega⟩ : Fin 1024) n) := by
  unfold vAt
  rw [View.readAt_apply, harg2.read_unread]
  refine congrArg x0 (funext fun a => Fin.ext ?_)
  match a with
  | ⟨0, _⟩ => show 512 * j.val + 1 * t.val = 512 * j.val + t.val; omega
  | ⟨1, _⟩ => show 0 + 1 * n.val = n.val; omega

/-- A loaded row block of `x`, at an index. -/
theorem xAt_apply (arg3 : Memref sig .tc .vmem S1024x2048 .fp8e4m3) (harg3 : arg3.IsWhole) (x1 : Vec Ideal S1024x2048 .fp8e4m3) (j : Fin 2) (t : Fin 512) (k : Fin 2048) :
    xAt arg3 harg3 x1 j (ix2 t k) = x1 (ix2 (⟨512 * j.val + t.val, by omega⟩ : Fin 1024) k) := by
  unfold xAt
  rw [View.readAt_apply, harg3.read_unread]
  refine congrArg x1 (funext fun a => Fin.ext ?_)
  match a with
  | ⟨0, _⟩ => show 512 * j.val + 1 * t.val = 512 * j.val + t.val; omega
  | ⟨1, _⟩ => show 0 + 1 * k.val = k.val; omega

/-- A loaded byte row of `x`, at an index. -/
theorem sAt_apply (arg4 : Memref sig .tc .vmem S2x16x2048 .i8) (harg4 : arg4.IsWhole) (x2 : Vec Ideal S2x16x2048 .i8) (j : Fin 2) (b : Fin 16) (k : Fin 2048) :
    sAt arg4 harg4 x2 j (ix3 0 b k) = x2 (ix3 j b k) := by
  unfold sAt
  rw [View.readAt_apply, harg4.read_unread]
  refine congrArg x2 (funext fun a => Fin.ext ?_)
  match a with
  | ⟨0, _⟩ => show j.val + 1 * 0 = j.val; omega
  | ⟨1, _⟩ => show 0 + 1 * b.val = b.val; omega
  | ⟨2, _⟩ => show 0 + 1 * k.val = k.val; omega

/-- A whole load, at an index. -/
theorem wholeAt_apply (a : Memref sig .tc .vmem S1024x2048 .f32) (ha : a.IsWhole) (y : Vec Ideal S1024x2048 .f32) (n : Fin 1024) (k : Fin 2048) :
    wholeAt a ha y (ix2 n k) = y (ix2 n k) := by
  unfold wholeAt
  rw [View.readAt_apply, ha.read_unread]
  refine congrArg y (funext fun a => Fin.ext ?_)
  match a with
  | ⟨0, _⟩ => show 0 + 1 * n.val = n.val; omega
  | ⟨1, _⟩ => show 0 + 1 * k.val = k.val; omega

/-- One accumulation step: the product of row block `j` added to `acc`. -/
def stepV (v : FVec Ideal S512x1024 .bf16) (x : FVec Ideal S512x2048 .fp8e4m3) (s : IVec S1x16x2048 8) (acc : Vec Ideal S1024x2048 .f32) : Vec Ideal S1024x2048 .f32 :=
  k2_pay13 (F := Ideal) (colD v) (k2_pay11 (F := Ideal) s) (k2_pay12 (F := Ideal) x) acc

variable (c : Dev nD) (i : grid2.Coords) (arg2 : Memref sig .tc .vmem S1024x1024 .bf16) (harg2 : arg2.IsWhole) (arg3 : Memref sig .tc .vmem S1024x2048 .fp8e4m3) (harg3 : arg3.IsWhole) (arg4 : Memref sig .tc .vmem S2x16x2048 .i8) (harg4 : arg4.IsWhole) (arg5 : Memref sig .tc .vmem S1024x2048 .f32) (harg5 : arg5.IsWhole) (arg6 : Memref sig .tc .vmem S1024x2048 .f32) (harg6 : arg6.IsWhole) (arg7 : Memref sig .tc .vmem S1024x1024 .fp8e5m2) (harg7 : arg7.IsWhole) (arg8 : Memref sig .tc .vmem S2x16x1024 .i8) (harg8 : arg8.IsWhole)
    (x0 : Vec Ideal S1024x1024 .bf16) (x1 : Vec Ideal S1024x2048 .fp8e4m3) (x2 : Vec Ideal S2x16x2048 .i8) (x3 xo4 : Vec Ideal S1024x2048 .f32)

/-- The whole accumulator block. -/
abbrev rAcc : Rect S1024x2048 := Rect.unit ![0, 0] S1024x2048.size inb_S1024x2048_S1024x2048_0_0

/-- The codes stored, case A. -/
theorem codes_A (hc0 : cond2_0 i) :
    (kernelRun2_A (F := Ideal) c i arg2 harg2 arg3 harg3 arg4 harg4 arg5 harg5 arg6 harg6 arg7 harg7 arg8 harg8 hc0 x0 x1 x2 x3).2.1
      = [1, 0].map fun j : Fin 2 => (⟨Rect.unit ![512 * j.val, 0] S512x1024.size (inbV j), colCode (vAt arg2 harg2 x0 j)⟩ : View.Piece (Elt Ideal) S1024x1024 .fp8e5m2) := by
  sl_kernel_rfl

/-- The byte rows stored, case A. -/
theorem rows_A (hc0 : cond2_0 i) :
    (kernelRun2_A (F := Ideal) c i arg2 harg2 arg3 harg3 arg4 harg4 arg5 harg5 arg6 harg6 arg7 harg7 arg8 harg8 hc0 x0 x1 x2 x3).2.2.1
      = [1, 0].map fun j : Fin 2 => (⟨Rect.unit ![j.val, 0, 0] S1x16x1024.size (inbB j), colRow (vAt arg2 harg2 x0 j)⟩ : View.Piece (Elt Ideal) S2x16x1024 .i8) := by
  sl_kernel_rfl

/-- The codes stored, case B. -/
theorem codes_B (hc0 : ¬cond2_0 i) :
    (kernelRun2_B (F := Ideal) c i arg2 harg2 arg3 harg3 arg4 harg4 arg5 harg5 arg6 harg6 arg7 harg7 arg8 harg8 hc0 x0 x1 x2 x3 xo4).2.1
      = [1, 0].map fun j : Fin 2 => (⟨Rect.unit ![512 * j.val, 0] S512x1024.size (inbV j), colCode (vAt arg2 harg2 x0 j)⟩ : View.Piece (Elt Ideal) S1024x1024 .fp8e5m2) := by
  sl_kernel_rfl

/-- The byte rows stored, case B. -/
theorem rows_B (hc0 : ¬cond2_0 i) :
    (kernelRun2_B (F := Ideal) c i arg2 harg2 arg3 harg3 arg4 harg4 arg5 harg5 arg6 harg6 arg7 harg7 arg8 harg8 hc0 x0 x1 x2 x3 xo4).2.2.1
      = [1, 0].map fun j : Fin 2 => (⟨Rect.unit ![j.val, 0, 0] S1x16x1024.size (inbB j), colRow (vAt arg2 harg2 x0 j)⟩ : View.Piece (Elt Ideal) S2x16x1024 .i8) := by
  sl_kernel_rfl

/-- What case A's first store leaves, as the step loads it. -/
abbrev acc0 : Vec Ideal S1024x2048 .f32 :=
  View.readCov arg6.view [(⟨rAcc, wholeAt arg5 harg5 x3⟩ : View.Piece (Elt Ideal) S1024x2048 .f32)] rAcc.toLoadRect

/-- What case A's second store leaves, as the next step loads it. -/
abbrev acc1 : Vec Ideal S1024x2048 .f32 :=
  View.readCov arg6.view [(⟨rAcc, stepV (vAt arg2 harg2 x0 0) (xAt arg3 harg3 x1 0) (sAt arg4 harg4 x2 0) (acc0 arg5 harg5 arg6 x3)⟩ : View.Piece (Elt Ideal) S1024x2048 .f32),
    ⟨rAcc, wholeAt arg5 harg5 x3⟩] rAcc.toLoadRect

/-- The accumulator stores, case A. -/
theorem acc_A (hc0 : cond2_0 i) :
    (kernelRun2_A (F := Ideal) c i arg2 harg2 arg3 harg3 arg4 harg4 arg5 harg5 arg6 harg6 arg7 harg7 arg8 harg8 hc0 x0 x1 x2 x3).1
      = [(⟨rAcc, stepV (vAt arg2 harg2 x0 1) (xAt arg3 harg3 x1 1) (sAt arg4 harg4 x2 1) (acc1 arg2 harg2 arg3 harg3 arg4 harg4 arg5 harg5 arg6 x0 x1 x2 x3)⟩ : View.Piece (Elt Ideal) S1024x2048 .f32),
         ⟨rAcc, stepV (vAt arg2 harg2 x0 0) (xAt arg3 harg3 x1 0) (sAt arg4 harg4 x2 0) (acc0 arg5 harg5 arg6 x3)⟩, ⟨rAcc, wholeAt arg5 harg5 x3⟩] := by
  sl_kernel_rfl

/-- What case B's first store leaves, as the next step loads it. -/
abbrev accB : Vec Ideal S1024x2048 .f32 :=
  View.readCov arg6.view [(⟨rAcc, stepV (vAt arg2 harg2 x0 0) (xAt arg3 harg3 x1 0) (sAt arg4 harg4 x2 0) (wholeAt arg6 harg6 xo4)⟩ : View.Piece (Elt Ideal) S1024x2048 .f32)] rAcc.toLoadRect

/-- The accumulator stores, case B. -/
theorem acc_B (hc0 : ¬cond2_0 i) :
    (kernelRun2_B (F := Ideal) c i arg2 harg2 arg3 harg3 arg4 harg4 arg5 harg5 arg6 harg6 arg7 harg7 arg8 harg8 hc0 x0 x1 x2 x3 xo4).1
      = [(⟨rAcc, stepV (vAt arg2 harg2 x0 1) (xAt arg3 harg3 x1 1) (sAt arg4 harg4 x2 1) (accB arg2 harg2 arg3 harg3 arg4 harg4 arg6 harg6 x0 x1 x2 xo4)⟩ : View.Piece (Elt Ideal) S1024x2048 .f32),
         ⟨rAcc, stepV (vAt arg2 harg2 x0 0) (xAt arg3 harg3 x1 0) (sAt arg4 harg4 x2 0) (wholeAt arg6 harg6 xo4)⟩] := by
  sl_kernel_rfl

end Cert.WgradRun
-- ==== Proof.WgradVal.lean ====
/- The values one run of the third call's body leaves in its three output blocks, at an index. -/
module

public import proofs.«01_k».proof.Proof.WgradRun

@[expose] public section

noncomputable section

namespace Cert.WgradRun

open Idealize.ShloMosaic hiding ix2 ix3 ix4
open Idealize.ShloMosaic.TcCoe Idealize.ShloMosaic.Tactic
open Idealize.ShloMosaic.ValueIdx Cert.KernelIdeal Cert.KernelIdeal.Gen Cert.Mx

/-- Block `g` of column `n` of the input block. -/
def cBlk (x0 : S1024x1024.Idx → EReal) (g : Fin 32) (n : Fin 1024) : Fin 32 → EReal :=
  fun k => x0 (ix2 (⟨32 * g.val + k.val, by omega⟩ : Fin 1024) n)

/-- The block of rows that row `a` lies in. -/
abbrev blkR (a : Fin 1024) : Fin 32 := ⟨a.val / 32, by omega⟩

/-- The slab of the point's two that row `a` lies in. -/
abbrev half (a : Fin 1024) : Fin 2 := ⟨a.val / 512, by omega⟩

/-- The block of its slab that row `a` lies in. -/
abbrev blkH (a : Fin 1024) : Fin 16 := ⟨a.val % 512 / 32, by omega⟩

/-- One row's term of the product. -/
def term (x0 : S1024x1024.Idx → EReal) (x1 : S1024x2048.Idx → EReal) (x2 : S2x16x2048.Idx → BitVec 8) (n : Fin 1024) (k : Fin 2048) (a : Fin 1024) : EReal :=
  deqV (cBlk x0 (blkR a) n) (x0 (ix2 a n)) * (x1 (ix2 a k) * pw (x2 (ix3 (half a) (blkH a) k)).toNat)

/-- Block `g` of row block `j`. -/
abbrev blkJ (j : Fin 2) (g : Fin 16) : Fin 32 := ⟨16 * j.val + g.val, by omega⟩

/-- An index of a row block is a row and a column. -/
theorem ex_v (y : S512x1024.Idx) : ∃ (a : Fin 512) (b : Fin 1024), y = ix2 a b :=
  ⟨y 0, y 1, funext fun a => by
    match a with
    | ⟨0, _⟩ => rfl
    | ⟨1, _⟩ => rfl⟩

/-- An index of a row block's bytes is a block and a column. -/
theorem ex_b (y : S1x16x1024.Idx) : ∃ (a : Fin 16) (b : Fin 1024), y = ix3 0 a b :=
  ⟨y 1, y 2, funext fun a => by
    match a with
    | ⟨0, _⟩ => exact Subsingleton.elim (α := Fin 1) _ _
    | ⟨1, _⟩ => rfl
    | ⟨2, _⟩ => rfl⟩

/-- Row `t` of row block `j`. -/
abbrev rowOf (j : Fin 2) (t : Fin 512) : Fin 1024 := ⟨512 * j.val + t.val, by omega⟩

/-- An index of row block `j`, in the block. -/
theorem embV (j : Fin 2) (t : Fin 512) (n : Fin 1024) :
    (Rect.unit (s := S1024x1024) ![512 * j.val, 0] S512x1024.size (inbV j)).emb (ix2 t n) = ix2 (rowOf j t) n :=
  funext fun a => Fin.ext (by
    match a with
    | ⟨0, _⟩ => show 512 * j.val + 1 * t.val = 512 * j.val + t.val; omega
    | ⟨1, _⟩ => show 0 + 1 * n.val = n.val; omega)

/-- An index of the byte rows of row block `j`, in the block. -/
theorem embB (j : Fin 2) (b : Fin 16) (n : Fin 1024) :
    (Rect.unit (s := S2x16x1024) ![j.val, 0, 0] S1x16x1024.size (inbB j)).emb (ix3 0 b n) = ix3 j b n :=
  funext fun a => Fin.ext (by
    match a with
    | ⟨0, _⟩ => show j.val + 1 * 0 = j.val; omega
    | ⟨1, _⟩ => show 0 + 1 * b.val = b.val; omega
    | ⟨2, _⟩ => show 0 + 1 * n.val = n.val; omega)

/-- Two stores of the whole accumulator block cover it. -/
theorem acc_cover (w w' : Vec Ideal S1024x2048 .f32) (y : S1024x2048.Idx) :
    ∃ pc ∈ ([⟨rAcc, w⟩, ⟨rAcc, w'⟩] : List (View.Piece (Elt Ideal) S1024x2048 .f32)), y ∈ pc.1.set :=
  View.cover_of_tiledL ([⟨rAcc, w⟩, ⟨rAcc, w'⟩] : List (View.Piece (Elt Ideal) S1024x2048 .f32)) S1024x2048.size (by sl_kernel_rfl) y

variable (c : Dev nD) (i : grid2.Coords) (arg2 : Memref sig .tc .vmem S1024x1024 .bf16) (harg2 : arg2.IsWhole) (arg3 : Memref sig .tc .vmem S1024x2048 .fp8e4m3) (harg3 : arg3.IsWhole) (arg4 : Memref sig .tc .vmem S2x16x2048 .i8) (harg4 : arg4.IsWhole) (arg5 : Memref sig .tc .vmem S1024x2048 .f32) (harg5 : arg5.IsWhole) (arg6 : Memref sig .tc .vmem S1024x2048 .f32) (harg6 : arg6.IsWhole) (arg7 : Memref sig .tc .vmem S1024x1024 .fp8e5m2) (harg7 : arg7.IsWhole) (arg8 : Memref sig .tc .vmem S2x16x1024 .i8) (harg8 : arg8.IsWhole)
    (x0 : Vec Ideal S1024x1024 .bf16) (x1 : Vec Ideal S1024x2048 .fp8e4m3) (x2 : Vec Ideal S2x16x2048 .i8) (x3 xo4 : Vec Ideal S1024x2048 .f32)

/-- A block of a row block is a block of the input block. -/
theorem vBlk_eq (j : Fin 2) (b : Fin 16) (n : Fin 1024) (g : Fin 32) (hg : g.val = 16 * j.val + b.val) :
    colTBlk (vAt arg2 harg2 x0 j) b n = cBlk x0 g n := funext fun k => by
  unfold colTBlk cBlk
  rw [vAt_apply]
  refine congrArg (fun z => x0 (ix2 z n)) (Fin.ext ?_)
  show 512 * j.val + (32 * b.val + k.val) = 32 * g.val + k.val
  omega

/-- Every element of a row block is a bf16 number. -/
theorem v_good (hx : ∀ y, Good (x0 y)) (j : Fin 2) (y : S512x1024.Idx) : Good (vAt arg2 harg2 x0 j y) := by
  obtain ⟨a, b, rfl⟩ := ex_v y
  exact (congrArg Good (vAt_apply arg2 harg2 x0 j a b)).mpr (hx _)

/-- One accumulation step, at an index. -/
theorem step_val (hx : ∀ y, Good (x0 y)) (j : Fin 2) (acc : Vec Ideal S1024x2048 .f32) (n : Fin 1024) (k : Fin 2048) :
    stepV (vAt arg2 harg2 x0 j) (xAt arg3 harg3 x1 j) (sAt arg4 harg4 x2 j) acc (ix2 n k)
      = (acc (ix2 n k) : EReal) + ∑ t : Fin 512, term x0 x1 x2 n k (rowOf j t) := by
  unfold stepV
  refine (step1_apply _ _ _ _ n k).trans (congrArg (acc (ix2 n k) + ·) (Finset.sum_congr rfl fun t _ => ?_))
  unfold term
  refine congrArg₂ (· * ·) ?_ (congrArg₂ (· * ·) (xAt_apply arg3 harg3 x1 j t k) ?_)
  · refine (col_d _ (v_good arg2 harg2 x0 hx j) t n (⟨t.val / 32, by omega⟩ : Fin 16) rfl).trans ?_
    rw [vAt_apply, vBlk_eq arg2 harg2 x0 j _ n (blkR (rowOf j t)) (by show (512 * j.val + t.val) / 32 = 16 * j.val + t.val / 32; omega)]
  · refine (xscale_apply _ t k (⟨t.val / 32, by omega⟩ : Fin 16) rfl).trans ?_
    rw [sAt_apply]
    refine congrArg (fun z => pw (x2 z).toNat) (funext fun a => Fin.ext ?_)
    match a with
    | ⟨0, _⟩ => show j.val = (512 * j.val + t.val) / 512; omega
    | ⟨1, _⟩ => show t.val / 32 = (512 * j.val + t.val) % 512 / 32; omega
    | ⟨2, _⟩ => rfl

/-- The codes left, at an index, case A. -/
theorem out5_A (hc0 : cond2_0 i) (hx : ∀ y, Good (x0 y)) (t : Fin 1024) (n : Fin 1024) :
    out2_A_5 (F := Ideal) c i arg2 harg2 arg3 harg3 arg4 harg4 arg5 harg5 arg6 harg6 arg7 harg7 arg8 harg8 hc0 x0 x1 x2 x3 (ix2 t n) = codeV (cBlk x0 (blkR t) n) (x0 (ix2 t n)) := by
  unfold out2_A_5
  rw [View.read_writes_eq_canon _ _ _ (cover2_A_5 (F := Ideal) c i arg2 harg2 arg3 harg3 arg4 harg4 arg5 harg5 arg6 harg6 arg7 harg7 arg8 harg8 hc0 x0 x1 x2 x3)]
  refine (View.canon_apply_of_pieces (fun y : S1024x1024.Idx => codeV (cBlk x0 (blkR (y 0)) (y 1)) (x0 y)) _ ?_ (ix2 t n)
    (cover2_A_5 (F := Ideal) c i arg2 harg2 arg3 harg3 arg4 harg4 arg5 harg5 arg6 harg6 arg7 harg7 arg8 harg8 hc0 x0 x1 x2 x3 (ix2 t n))).trans rfl
  rw [codes_A]
  intro p hp
  obtain ⟨j, -, rfl⟩ := List.mem_map.mp hp
  intro (y : S512x1024.Idx)
  obtain ⟨a, b, rfl⟩ := ex_v y
  refine Eq.trans ?_ (congrArg (fun y : S1024x1024.Idx => codeV (cBlk x0 (blkR (y 0)) (y 1)) (x0 y)) (embV j a b).symm)
  refine (col_code _ (v_good arg2 harg2 x0 hx j) a b (⟨a.val / 32, by omega⟩ : Fin 16) rfl).trans ?_
  rw [vAt_apply, vBlk_eq arg2 harg2 x0 j _ b (blkR (rowOf j a)) (by show (512 * j.val + a.val) / 32 = 16 * j.val + a.val / 32; omega)]

/-- The scale bytes left, at an index, case A. -/
theorem out6_A (hc0 : cond2_0 i) (j : Fin 2) (g : Fin 16) (n : Fin 1024) :
    out2_A_6 (F := Ideal) c i arg2 harg2 arg3 harg3 arg4 harg4 arg5 harg5 arg6 harg6 arg7 harg7 arg8 harg8 hc0 x0 x1 x2 x3 (ix3 j g n) = BitVec.ofNat 8 (scaleN (cBlk x0 (blkJ j g) n)) := by
  unfold out2_A_6
  rw [View.read_writes_eq_canon _ _ _ (cover2_A_6 (F := Ideal) c i arg2 harg2 arg3 harg3 arg4 harg4 arg5 harg5 arg6 harg6 arg7 harg7 arg8 harg8 hc0 x0 x1 x2 x3)]
  refine (View.canon_apply_of_pieces (fun y : S2x16x1024.Idx => BitVec.ofNat 8 (scaleN (cBlk x0 (blkJ (y 0) (y 1)) (y 2)))) _ ?_ (ix3 j g n)
    (cover2_A_6 (F := Ideal) c i arg2 harg2 arg3 harg3 arg4 harg4 arg5 harg5 arg6 harg6 arg7 harg7 arg8 harg8 hc0 x0 x1 x2 x3 (ix3 j g n))).trans rfl
  rw [rows_A]
  intro p hp
  obtain ⟨j, -, rfl⟩ := List.mem_map.mp hp
  intro (y : S1x16x1024.Idx)
  obtain ⟨a, b, rfl⟩ := ex_b y
  refine Eq.trans ?_ (congrArg (fun y : S2x16x1024.Idx => BitVec.ofNat 8 (scaleN (cBlk x0 (blkJ (y 0) (y 1)) (y 2)))) (embB j a b).symm)
  refine (col_row _ a b).trans ?_
  rw [vBlk_eq arg2 harg2 x0 j a b (blkJ j a) rfl]

/-- The codes left, at an index, case B. -/
theorem out5_B (hc0 : ¬cond2_0 i) (hx : ∀ y, Good (x0 y)) (t : Fin 1024) (n : Fin 1024) :
    out2_B_5 (F := Ideal) c i arg2 harg2 arg3 harg3 arg4 harg4 arg5 harg5 arg6 harg6 arg7 harg7 arg8 harg8 hc0 x0 x1 x2 x3 xo4 (ix2 t n) = codeV (cBlk x0 (blkR t) n) (x0 (ix2 t n)) := by
  unfold out2_B_5
  rw [View.read_writes_eq_canon _ _ _ (cover2_B_5 (F := Ideal) c i arg2 harg2 arg3 harg3 arg4 harg4 arg5 harg5 arg6 harg6 arg7 harg7 arg8 harg8 hc0 x0 x1 x2 x3 xo4)]
  refine (View.canon_apply_of_pieces (fun y : S1024x1024.Idx => codeV (cBlk x0 (blkR (y 0)) (y 1)) (x0 y)) _ ?_ (ix2 t n)
    (cover2_B_5 (F := Ideal) c i arg2 harg2 arg3 harg3 arg4 harg4 arg5 harg5 arg6 harg6 arg7 harg7 arg8 harg8 hc0 x0 x1 x2 x3 xo4 (ix2 t n))).trans rfl
  rw [codes_B]
  intro p hp
  obtain ⟨j, -, rfl⟩ := List.mem_map.mp hp
  intro (y : S512x1024.Idx)
  obtain ⟨a, b, rfl⟩ := ex_v y
  refine Eq.trans ?_ (congrArg (fun y : S1024x1024.Idx => codeV (cBlk x0 (blkR (y 0)) (y 1)) (x0 y)) (embV j a b).symm)
  refine (col_code _ (v_good arg2 harg2 x0 hx j) a b (⟨a.val / 32, by omega⟩ : Fin 16) rfl).trans ?_
  rw [vAt_apply, vBlk_eq arg2 harg2 x0 j _ b (blkR (rowOf j a)) (by show (512 * j.val + a.val) / 32 = 16 * j.val + a.val / 32; omega)]

/-- The scale bytes left, at an index, case B. -/
theorem out6_B (hc0 : ¬cond2_0 i) (j : Fin 2) (g : Fin 16) (n : Fin 1024) :
    out2_B_6 (F := Ideal) c i arg2 harg2 arg3 harg3 arg4 harg4 arg5 harg5 arg6 harg6 arg7 harg7 arg8 harg8 hc0 x0 x1 x2 x3 xo4 (ix3 j g n) = BitVec.ofNat 8 (scaleN (cBlk x0 (blkJ j g) n)) := by
  unfold out2_B_6
  rw [View.read_writes_eq_canon _ _ _ (cover2_B_6 (F := Ideal) c i arg2 harg2 arg3 harg3 arg4 harg4 arg5 harg5 arg6 harg6 arg7 harg7 arg8 harg8 hc0 x0 x1 x2 x3 xo4)]
  refine (View.canon_apply_of_pieces (fun y : S2x16x1024.Idx => BitVec.ofNat 8 (scaleN (cBlk x0 (blkJ (y 0) (y 1)) (y 2)))) _ ?_ (ix3 j g n)
    (cover2_B_6 (F := Ideal) c i arg2 harg2 arg3 harg3 arg4 harg4 arg5 harg5 arg6 harg6 arg7 harg7 arg8 harg8 hc0 x0 x1 x2 x3 xo4 (ix3 j g n))).trans rfl
  rw [rows_B]
  intro p hp
  obtain ⟨j, -, rfl⟩ := List.mem_map.mp hp
  intro (y : S1x16x1024.Idx)
  obtain ⟨a, b, rfl⟩ := ex_b y
  refine Eq.trans ?_ (congrArg (fun y : S2x16x1024.Idx => BitVec.ofNat 8 (scaleN (cBlk x0 (blkJ (y 0) (y 1)) (y 2)))) (embB j a b).symm)
  refine (col_row _ a b).trans ?_
  rw [vBlk_eq arg2 harg2 x0 j a b (blkJ j a) rfl]

/-- The accumulators left, at an index, case A: the main gradient and both row blocks' products. -/
theorem out4_A (hc0 : cond2_0 i) (hx : ∀ y, Good (x0 y)) (n : Fin 1024) (k : Fin 2048) :
    out2_A_4 (F := Ideal) c i arg2 harg2 arg3 harg3 arg4 harg4 arg5 harg5 arg6 harg6 arg7 harg7 arg8 harg8 hc0 x0 x1 x2 x3 (ix2 n k)
      = ((x3 (ix2 n k) : EReal) + ∑ t : Fin 512, term x0 x1 x2 n k (rowOf 0 t)) + ∑ t : Fin 512, term x0 x1 x2 n k (rowOf 1 t) := by
  unfold out2_A_4
  rw [View.read_writes_eq_canon _ _ _ (cover2_A_4 (F := Ideal) c i arg2 harg2 arg3 harg3 arg4 harg4 arg5 harg5 arg6 harg6 arg7 harg7 arg8 harg8 hc0 x0 x1 x2 x3), acc_A, View.canon_cons_unit_zero off0]
  refine (step_val arg2 harg2 arg3 harg3 arg4 harg4 x0 x1 x2 hx 1 _ n k).trans (congrArg (· + _) ?_)
  have h1 : acc1 arg2 harg2 arg3 harg3 arg4 harg4 arg5 harg5 arg6 x0 x1 x2 x3
      = stepV (vAt arg2 harg2 x0 0) (xAt arg3 harg3 x1 0) (sAt arg4 harg4 x2 0) (acc0 arg5 harg5 arg6 x3) := by
    unfold acc1
    rw [View.readCov_eq_canon_ld _ _ _ (acc_cover _ _), View.canon_cons_unit_zero off0, View.ld_unit_zero off0]
  have h0 : acc0 arg5 harg5 arg6 x3 = wholeAt arg5 harg5 x3 := View.readCov_unit_zero _ off0 _ _
  rw [h1, h0]
  refine (step_val arg2 harg2 arg3 harg3 arg4 harg4 x0 x1 x2 hx 0 _ n k).trans (congrArg (· + _) ?_)
  exact wholeAt_apply arg5 harg5 x3 n k

/-- The accumulators left, at an index, case B: the accumulators found and both row blocks' products. -/
theorem out4_B (hc0 : ¬cond2_0 i) (hx : ∀ y, Good (x0 y)) (n : Fin 1024) (k : Fin 2048) :
    out2_B_4 (F := Ideal) c i arg2 harg2 arg3 harg3 arg4 harg4 arg5 harg5 arg6 harg6 arg7 harg7 arg8 harg8 hc0 x0 x1 x2 x3 xo4 (ix2 n k)
      = ((xo4 (ix2 n k) : EReal) + ∑ t : Fin 512, term x0 x1 x2 n k (rowOf 0 t)) + ∑ t : Fin 512, term x0 x1 x2 n k (rowOf 1 t) := by
  unfold out2_B_4
  rw [View.read_writes_eq_canon _ _ _ (cover2_B_4 (F := Ideal) c i arg2 harg2 arg3 harg3 arg4 harg4 arg5 harg5 arg6 harg6 arg7 harg7 arg8 harg8 hc0 x0 x1 x2 x3 xo4), acc_B, View.canon_cons_unit_zero off0]
  refine (step_val arg2 harg2 arg3 harg3 arg4 harg4 x0 x1 x2 hx 1 _ n k).trans (congrArg (· + _) ?_)
  have h0 : accB arg2 harg2 arg3 harg3 arg4 harg4 arg6 harg6 x0 x1 x2 xo4
      = stepV (vAt arg2 harg2 x0 0) (xAt arg3 harg3 x1 0) (sAt arg4 harg4 x2 0) (wholeAt arg6 harg6 xo4) := View.readCov_unit_zero _ off0 _ _
  rw [h0]
  refine (step_val arg2 harg2 arg3 harg3 arg4 harg4 x0 x1 x2 hx 0 _ n k).trans (congrArg (· + _) ?_)
  exact wholeAt_apply arg6 harg6 xo4 n k

end Cert.WgradRun
-- ==== Proof.Arrays2.lean ====
/- What the third call leaves in its result arrays, from the arrays it finds: the column quantisation and the main gradient
   with the weight gradient added. -/
module

public import proofs.«01_k».proof.Proof.WgradVal
public import proofs.«01_k».proof.Proof.Windows
public import proofs.«01_k».proof.Proof.Spec
public import Idealize.ShloMosaic.Lib.Pipeline.Value
public import Idealize.ShloMosaic.Lib.Pipeline.ValueKit

@[expose] public section

noncomputable section

namespace Cert.Arrays

open Idealize.ShloMosaic hiding ix2 ix3 ix4
open Idealize.ShloMosaic.TcCoe Idealize.ShloMosaic.Tactic
open Idealize.ShloMosaic.ValueIdx Cert.KernelIdeal Cert.KernelIdeal.Gen Cert.Mx

/-- Block `G` of column `n` of a `16384 x 8192` array. -/
def cBlk2 (D : S16384x8192.Idx → EReal) (G : Fin 512) (n : Fin 8192) : Fin 32 → EReal :=
  fun k => D (ix2 (⟨32 * G.val + k.val, by omega⟩ : Fin 16384) n)

/-- The block of rows that row `T` lies in. -/
abbrev blkG (T : Fin 16384) : Fin 512 := ⟨T.val / 32, by omega⟩

/-- Block `g` of slab `s`, among all blocks of rows. -/
abbrev blkS (s : Fin 32) (g : Fin 16) : Fin 512 := ⟨16 * s.val + g.val, by omega⟩

/-- One row's term of the weight gradient. -/
def term2 (D : S16384x8192.Idx → EReal) (E : S16384x2048.Idx → EReal) (S : S32x16x2048.Idx → BitVec 8) (n : Fin 8192) (k : Fin 2048)
    (T : Fin 16384) : EReal :=
  deqV (cBlk2 D (blkG T) n) (D (ix2 T n)) * (E (ix2 T k) * pw (S (ix3 (slab T) (blkT (slot T)) k)).toNat)

/-- The same, for a natural number. -/
def termN (D : S16384x8192.Idx → EReal) (E : S16384x2048.Idx → EReal) (S : S32x16x2048.Idx → BitVec 8) (n : Fin 8192) (k : Fin 2048)
    (T : ℕ) : EReal := if h : T < 16384 then term2 D E S n k ⟨T, h⟩ else 0

/-- The column codes as the third call leaves them. -/
abbrev ccArr (D : S16384x8192.Idx → EReal) : S16384x8192.Idx → EReal := fun y => codeV (cBlk2 D (blkG (y 0)) (y 1)) (D y)

/-- The column scale bytes as the third call leaves them. -/
abbrev cbArr (D : S16384x8192.Idx → EReal) : S32x16x8192.Idx → BitVec 8 := fun y =>
  BitVec.ofNat 8 (scaleN (cBlk2 D (blkS (y 0) (y 1)) (y 2)))

/-- The main gradient as the third call leaves it. -/
abbrev mgArr (D : S16384x8192.Idx → EReal) (E : S16384x2048.Idx → EReal) (S : S32x16x2048.Idx → BitVec 8) (M : S8192x2048.Idx → EReal) :
    S8192x2048.Idx → EReal := fun y => M y + ∑ T : Fin 16384, term2 D E S (y 0) (y 1) T

/-- The main gradient and the first `r` rows of the product. -/
abbrev accN (D : S16384x8192.Idx → EReal) (E : S16384x2048.Idx → EReal) (S : S32x16x2048.Idx → BitVec 8) (M : S8192x2048.Idx → EReal)
    (n : Fin 8192) (k : Fin 2048) (r : ℕ) : EReal := M (ix2 n k) + ∑ T ∈ Finset.range r, termN D E S n k T

/-- All the rows of the product. -/
theorem accN_all (D : S16384x8192.Idx → EReal) (E : S16384x2048.Idx → EReal) (S : S32x16x2048.Idx → BitVec 8) (M : S8192x2048.Idx → EReal)
    (n : Fin 8192) (k : Fin 2048) : accN D E S M n k (1024 * (15 + 1)) = mgArr D E S M (ix2 n k) := by
  have e : 1024 * (15 + 1) = 16384 := rfl
  rw [e]
  refine congrArg (M (ix2 n k) + ·) ?_
  rw [Finset.sum_range]
  refine Finset.sum_congr rfl fun T _ => ?_
  rw [termN, dif_pos T.isLt]

variable (V : (c : Dev nD) → (r : Ref sig .tc) → Buf (Elt Ideal) ((c.tc : Thread nD τ).loc r))

/-- The row of the array that row `a` of point `t`'s block is. -/
abbrev gRow (t : Fin cfg2.N) (a : Fin 1024) : Fin 16384 := at' (n := 16) (N := 16384) (t.val % 16) (Nat.mod_lt _ (by decide)) rfl a

/-- The column of the array that column `b` of point `t`'s block is. -/
abbrev gCol (t : Fin cfg2.N) (b : Fin 1024) : Fin 8192 :=
  at' (n := 8) (N := 8192) (t.val / 16) (Nat.div_lt_of_lt_mul (n := 16) (k := 8) t.isLt) rfl b

/-- A block of columns of the point's block of `dy` is a block of `dy`. -/
theorem cBlk_eq (c : Dev nD) (t : Fin cfg2.N) (g : Fin 32) (n : Fin 1024) (G : Fin 512) (hG : G.val = 32 * (t.val % 16) + g.val) :
    WgradRun.cBlk (iblk2 (F := Ideal) V c 0 t) g n = cBlk2 (V c main_v0) G (gCol t n) := funext fun k => by
  unfold WgradRun.cBlk cBlk2
  blk_simp [iblk2]
  rw [emb2_0]
  refine congrArg (fun z => V c main_v0 (ix2 z (gCol t n))) (Fin.ext ?_)
  show t.val % 16 * 1024 + (32 * g.val + k.val) = 32 * G.val + k.val
  omega

/-- A row's term at a point is that row's term of the whole product. -/
theorem term_eq (c : Dev nD) (t : Fin cfg2.N) (n : Fin 1024) (k : Fin 2048) (a : Fin 1024) :
    WgradRun.term (iblk2 (F := Ideal) V c 0 t) (iblk2 (F := Ideal) V c 1 t) (iblk2 (F := Ideal) V c 2 t) n k a
      = term2 (V c main_v0) (V c main_v1) (V c main_arg2) (gCol t n) k (gRow t a) := by
  unfold WgradRun.term term2
  rw [cBlk_eq V c t _ n (blkG (gRow t a)) (by show (t.val % 16 * 1024 + a.val) / 32 = 32 * (t.val % 16) + a.val / 32; omega)]
  blk_simp [iblk2]
  rw [emb2_0, emb2_1, emb2_2]
  have e1 : at' (n := 16) (N := 32) (t.val % 16) (Nat.mod_lt _ (by decide)) rfl (WgradRun.half a) = slab (gRow t a) :=
    Fin.ext (by show t.val % 16 * 2 + a.val / 512 = (t.val % 16 * 1024 + a.val) / 512; omega)
  have e2 : WgradRun.blkH a = blkT (slot (gRow t a)) :=
    Fin.ext (by show a.val % 512 / 32 = (t.val % 16 * 1024 + a.val) % 512 / 32; omega)
  rw [e1, e2]

/-- Half a point's rows, as a range of the whole product's rows. -/
theorem sum_half (c : Dev nD) (t : Fin cfg2.N) (n : Fin 1024) (k : Fin 2048) (j : Fin 2) :
    ∑ a : Fin 512, WgradRun.term (iblk2 (F := Ideal) V c 0 t) (iblk2 (F := Ideal) V c 1 t) (iblk2 (F := Ideal) V c 2 t) n k (WgradRun.rowOf j a)
      = ∑ a ∈ Finset.range 512, termN (V c main_v0) (V c main_v1) (V c main_arg2) (gCol t n) k (1024 * (t.val % 16) + 512 * j.val + a) := by
  rw [Finset.sum_range]
  refine Finset.sum_congr rfl fun a _ => ?_
  have hlt : 1024 * (t.val % 16) + 512 * j.val + a.val < 16384 := by omega
  rw [term_eq, termN, dif_pos hlt]
  refine congrArg _ (Fin.ext ?_)
  show t.val % 16 * 1024 + (512 * j.val + a.val) = 1024 * (t.val % 16) + 512 * j.val + a.val
  omega

/-- A range of rows grows by a point's two halves. -/
theorem sum_grow (f : ℕ → EReal) (m : EReal) (r : ℕ) :
    ((m + ∑ T ∈ Finset.range (1024 * r), f T) + ∑ a ∈ Finset.range 512, f (1024 * r + 512 * (0 : Fin 2).val + a))
        + ∑ a ∈ Finset.range 512, f (1024 * r + 512 * (1 : Fin 2).val + a)
      = m + ∑ T ∈ Finset.range (1024 * (r + 1)), f T := by
  have e : 1024 * (r + 1) = 1024 * r + 512 + 512 := by omega
  rw [e, Finset.sum_range_add, Finset.sum_range_add, add_assoc, add_assoc, add_assoc]
  rfl

/-- The accumulators after a point: the main gradient and the rows up to the point's. -/
theorem acc2 (c : Dev nD) (hD : ∀ y, Good (V c main_v0 y)) (n : Fin 1024) (k : Fin 2048) : ∀ (r : ℕ) (t : Fin cfg2.N), t.val % 16 = r →
    (outsAt2 (F := Ideal) V c t.val t.isLt).1 (ix2 n k)
      = accN (V c main_v0) (V c main_v1) (V c main_arg2) (V c main_arg5) (gCol t n) k (1024 * (r + 1)) := by
  intro r
  induction r with
  | zero =>
    intro t h0
    rw [outsAt2_A V c t h0]
    dsimp only
    refine (WgradRun.out4_A (x0 := iblk2 V c 0 t) (hx := fun y => hD _) (n := n) (k := k) ..).trans ?_
    rw [sum_half, sum_half, h0]
    refine Eq.trans ?_ (sum_grow (termN (V c main_v0) (V c main_v1) (V c main_arg2) (gCol t n) k) _ 0)
    rw [Nat.mul_zero, Finset.range_zero, Finset.sum_empty, add_zero]
    refine congrArg (fun z : EReal => (z + _) + _) ?_
    blk_simp [iblk2]
    rw [emb2_3]
  | succ r ih =>
    intro t h1
    have h0 : ¬t.val % 16 = 0 := by omega
    rw [outsAt2_B V c t h0]
    dsimp only
    refine (WgradRun.out4_B (x0 := iblk2 V c 0 t) (hx := fun y => hD _) (n := n) (k := k) ..).trans ?_
    have hp : t.val - 1 < cfg2.N := Nat.lt_of_le_of_lt (Nat.sub_le _ _) t.isLt
    have hc : gCol ⟨t.val - 1, hp⟩ n = gCol t n :=
      Fin.ext (by show (t.val - 1) / 16 * 1024 + n.val = t.val / 16 * 1024 + n.val; omega)
    have hi := ih ⟨t.val - 1, hp⟩ (by show (t.val - 1) % 16 = r; omega)
    rw [hc] at hi
    rw [sum_half, sum_half, h1]
    refine Eq.trans ?_ (sum_grow (termN (V c main_v0) (V c main_v1) (V c main_arg2) (gCol t n) k) _ (r + 1))
    exact congrArg (fun z : EReal => (z + _) + _) hi

/-- The third call leaves the main gradient with the weight gradient added. -/
theorem final2_4 (c : Dev nD) (hD : ∀ y, Good (V c main_v0 y)) :
    (dat2 (F := Ideal) V c).arrAt 4 cfg2.N = mgArr (V c main_v0) (V c main_v1) (V c main_arg2) (V c main_arg5) := by
  refine (dat2 (F := Ideal) V c).arrAt_eq_of_covers 4 _ (by decide +kernel) fun t hf y => ?_
  obtain ⟨a, b, rfl⟩ : ∃ (a : Fin 1024) (b : Fin 2048), y = ix2 a b := ex2 y
  have h15 : t.val % 16 = 15 := (flush2_4 t).mp hf
  blk_simp
  rw [after2_4, emb2_4]
  exact (acc2 V c hD a b 15 t h15).trans (accN_all _ _ _ _ _ _)

/-- The third call leaves the column codes. -/
theorem final2_5 (c : Dev nD) (hD : ∀ y, Good (V c main_v0 y)) :
    (dat2 (F := Ideal) V c).arrAt 5 cfg2.N = ccArr (V c main_v0) := by
  refine (dat2 (F := Ideal) V c).arrAt_eq_of_covers 5 _ (by decide +kernel) fun t hf y => ?_
  obtain ⟨a, b, rfl⟩ : ∃ (a : Fin 1024) (b : Fin 1024), y = ix2 a b := ex2 y
  blk_simp
  rw [after2_5, emb2_5]
  have key : codeV (WgradRun.cBlk (iblk2 V c 0 t) (WgradRun.blkR a) b) (iblk2 V c 0 t (ix2 a b))
      = ccArr (V c main_v0) (ix2 (gRow t a) (gCol t b)) := by
    rw [cBlk_eq V c t _ b (blkG (gRow t a)) (by show (t.val % 16 * 1024 + a.val) / 32 = 32 * (t.val % 16) + a.val / 32; omega)]
    blk_simp [iblk2]
    rw [emb2_0]
  by_cases h0 : t.val % 16 = 0
  · rw [outsAt2_A V c t h0]
    dsimp only
    exact (WgradRun.out5_A (x0 := iblk2 V c 0 t) (hx := fun y => hD _) (t := a) (n := b) ..).trans key
  · rw [outsAt2_B V c t h0]
    dsimp only
    exact (WgradRun.out5_B (x0 := iblk2 V c 0 t) (hx := fun y => hD _) (t := a) (n := b) ..).trans key

/-- The third call leaves the column scale bytes. -/
theorem final2_6 (c : Dev nD) : (dat2 (F := Ideal) V c).arrAt 6 cfg2.N = cbArr (V c main_v0) := by
  refine (dat2 (F := Ideal) V c).arrAt_eq_of_covers 6 _ (by decide +kernel) fun t hf y => ?_
  obtain ⟨a, b, d, rfl⟩ : ∃ (a : Fin 2) (b : Fin 16) (d : Fin 1024), y = ix3 a b d := ex3 y
  blk_simp
  rw [after2_6, emb2_6]
  have key : BitVec.ofNat 8 (scaleN (WgradRun.cBlk (iblk2 V c 0 t) (WgradRun.blkJ a b) d))
      = cbArr (V c main_v0) (ix3 (at' (n := 16) (N := 32) (t.val % 16) (Nat.mod_lt _ (by decide)) rfl a) b (gCol t d)) := by
    rw [cBlk_eq V c t _ d (blkS (at' (n := 16) (N := 32) (t.val % 16) (Nat.mod_lt _ (by decide)) rfl a) b)
      (by show 16 * (t.val % 16 * 2 + a.val) + b.val = 32 * (t.val % 16) + (16 * a.val + b.val); omega)]
  by_cases h0 : t.val % 16 = 0
  · rw [outsAt2_A V c t h0]
    dsimp only
    exact (WgradRun.out6_A (x0 := iblk2 V c 0 t) (j := a) (g := b) (n := d) ..).trans key
  · rw [outsAt2_B V c t h0]
    dsimp only
    exact (WgradRun.out6_B (x0 := iblk2 V c 0 t) (j := a) (g := b) (n := d) ..).trans key

end Cert.Arrays
-- ==== Proof.RefRun.lean ====
/- What the reference's run leaves in its six result arrays: the gridless call's payloads of the argument arrays. The
   reference has one grid point and every window's block is its whole array, so each result array ends holding what the
   body stores into it. -/
module

public import proofs.«01_k».proof.Proof.Gen.ReferenceIdeal.Frame
public import Idealize.ShloMosaic.Lib.Pipeline.Value

@[expose] public section

noncomputable section

namespace Cert.RefRun

open Cert.ReferenceIdeal Cert.ReferenceIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_0) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_1) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_2) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_3) = (dats m 0 c).arrAt 9 cfg0.N :=
  (h c).1 9

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v0_4) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v0_5) = (dats m 0 c).arrAt 11 cfg0.N :=
  (h c).1 11

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S32x512x8192.Idx) : ((cfg0.win 0).blk t).view.emb j = j := by
  obtain ⟨e0, e1, e2⟩ := idx_zero0 t
  funext a; apply Fin.ext
  match a with
  | ⟨0, _⟩ => show win0_0.index t (0 : Fin 3) * 32 + 1 * (j 0).val = (j 0).val; omega
  | ⟨1, _⟩ => show win0_0.index t (1 : Fin 3) * 512 + 1 * (j 1).val = (j 1).val; omega
  | ⟨2, _⟩ => show win0_0.index t (2 : Fin 3) * 8192 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0, 0] : Fin 3 → Nat) = fun _ => 0 := funext fun a => by fin_cases a <;> rfl

/-- Window 1's block index at the one point is zero on every axis. -/
theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)

/-- An index of window 1's block is the same index of its array. -/
theorem emb1 (t : Fin cfg0.N) (j : S32x512x2048.Idx) : ((cfg0.win 1).blk t).view.emb j = j := by
  obtain ⟨e0, e1, e2⟩ := idx_zero1 t
  funext a; apply Fin.ext
  match a with
  | ⟨0, _⟩ => show win0_1.index t (0 : Fin 3) * 32 + 1 * (j 0).val = (j 0).val; omega
  | ⟨1, _⟩ => show win0_1.index t (1 : Fin 3) * 512 + 1 * (j 1).val = (j 1).val; omega
  | ⟨2, _⟩ => show win0_1.index t (2 : Fin 3) * 2048 + 1 * (j 2).val = (j 2).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0, 0] : Fin 3 → Nat) = fun _ => 0 := funext fun a => by fin_cases a <;> rfl

/-- Window 2's block index at the one point is zero on every axis. -/
theorem idx_zero2 : ∀ t : Fin cfg0.N, win0_2.index t (0 : Fin 3) = 0 ∧ win0_2.index t (1 : Fin 3) = 0 ∧ win0_2.index t (2 : Fin 3) = 0 :=
  (by decide +kernel : ∀ t : Fin grid0.N, _)

/-- An index of window 2's block is the same index of its array. -/
theorem emb2 (t : Fin cfg0.N) (j : S32x16x2048.Idx) : ((cfg0.win 2).blk t).view.emb j = j := by
  obtain ⟨e0, e1, e2⟩ := idx_zero2 t
  funext a; apply Fin.ext
  match a with
  | ⟨0, _⟩ => show win0_2.index t (0 : Fin 3) * 32 + 1 * (j 0).val = (j 0).val; omega
  | ⟨1, _⟩ => show win0_2.index t (1 : Fin 3) * 16 + 1 * (j 1).val = (j 1).val; omega
  | ⟨2, _⟩ => show win0_2.index t (2 : Fin 3) * 2048 + 1 * (j 2).val = (j 2).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S8192x2048.Idx) : ((cfg0.win 3).blk t).view.emb j = j := by
  obtain ⟨e0, e1⟩ := idx_zero3 t
  funext a; apply Fin.ext
  match a with
  | ⟨0, _⟩ => show win0_3.index t (0 : Fin 2) * 8192 + 1 * (j 0).val = (j 0).val; omega
  | ⟨1, _⟩ => show win0_3.index t (1 : Fin 2) * 2048 + 1 * (j 1).val = (j 1).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S256x2048.Idx) : ((cfg0.win 4).blk t).view.emb j = j := by
  obtain ⟨e0, e1⟩ := idx_zero4 t
  funext a; apply Fin.ext
  match a with
  | ⟨0, _⟩ => show win0_4.index t (0 : Fin 2) * 256 + 1 * (j 0).val = (j 0).val; omega
  | ⟨1, _⟩ => show win0_4.index t (1 : Fin 2) * 2048 + 1 * (j 1).val = (j 1).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0, 0] : Fin 2 → Nat) = fun _ => 0 := funext fun a => by fin_cases a <;> rfl

/-- Window 5's block index at the one point is zero on every axis. -/
theorem idx_zero5 : ∀ t : Fin cfg0.N, win0_5.index t (0 : Fin 2) = 0 ∧ win0_5.index t (1 : Fin 2) = 0 :=
  (by decide +kernel : ∀ t : Fin grid0.N, _)

/-- An index of window 5's block is the same index of its array. -/
theorem emb5 (t : Fin cfg0.N) (j : S8192x2048.Idx) : ((cfg0.win 5).blk t).view.emb j = j := by
  obtain ⟨e0, e1⟩ := idx_zero5 t
  funext a; apply Fin.ext
  match a with
  | ⟨0, _⟩ => show win0_5.index t (0 : Fin 2) * 8192 + 1 * (j 0).val = (j 0).val; omega
  | ⟨1, _⟩ => show win0_5.index t (1 : Fin 2) * 2048 + 1 * (j 1).val = (j 1).val; omega

/-- Input window 5's block at the point is its array as the region finds it. -/
theorem iblk5_eq (c : Dev nD) (t : Fin cfg0.N) : iblk m c 5 t = V m c main_arg5 := by
  funext j; show V m c main_arg5 (((cfg0.win 5).blk t).view.emb j) = V m c main_arg5 j; rw [emb5]

theorem hz6 : (![0, 0, 0] : Fin 3 → Nat) = fun _ => 0 := funext fun a => by fin_cases a <;> rfl

/-- Window 6's block index at the one point is zero on every axis. -/
theorem idx_zero6 : ∀ t : Fin cfg0.N, win0_6.index t (0 : Fin 3) = 0 ∧ win0_6.index t (1 : Fin 3) = 0 ∧ win0_6.index t (2 : Fin 3) = 0 :=
  (by decide +kernel : ∀ t : Fin grid0.N, _)

/-- An index of window 6's block is the same index of its array. -/
theorem emb6 (t : Fin cfg0.N) (j : S32x512x2048.Idx) : ((cfg0.win 6).blk t).view.emb j = j := by
  obtain ⟨e0, e1, e2⟩ := idx_zero6 t
  funext a; apply Fin.ext
  match a with
  | ⟨0, _⟩ => show win0_6.index t (0 : Fin 3) * 32 + 1 * (j 0).val = (j 0).val; omega
  | ⟨1, _⟩ => show win0_6.index t (1 : Fin 3) * 512 + 1 * (j 1).val = (j 1).val; omega
  | ⟨2, _⟩ => show win0_6.index t (2 : Fin 3) * 2048 + 1 * (j 2).val = (j 2).val; omega

theorem hz7 : (![0, 0] : Fin 2 → Nat) = fun _ => 0 := funext fun a => by fin_cases a <;> rfl

/-- Window 7's block index at the one point is zero on every axis. -/
theorem idx_zero7 : ∀ t : Fin cfg0.N, win0_7.index t (0 : Fin 2) = 0 ∧ win0_7.index t (1 : Fin 2) = 0 :=
  (by decide +kernel : ∀ t : Fin grid0.N, _)

/-- An index of window 7's block is the same index of its array. -/
theorem emb7 (t : Fin cfg0.N) (j : S8192x2048.Idx) : ((cfg0.win 7).blk t).view.emb j = j := by
  obtain ⟨e0, e1⟩ := idx_zero7 t
  funext a; apply Fin.ext
  match a with
  | ⟨0, _⟩ => show win0_7.index t (0 : Fin 2) * 8192 + 1 * (j 0).val = (j 0).val; omega
  | ⟨1, _⟩ => show win0_7.index t (1 : Fin 2) * 2048 + 1 * (j 1).val = (j 1).val; omega

theorem hz8 : (![0, 0, 0] : Fin 3 → Nat) = fun _ => 0 := funext fun a => by fin_cases a <;> rfl

/-- Window 8's block index at the one point is zero on every axis. -/
theorem idx_zero8 : ∀ t : Fin cfg0.N, win0_8.index t (0 : Fin 3) = 0 ∧ win0_8.index t (1 : Fin 3) = 0 ∧ win0_8.index t (2 : Fin 3) = 0 :=
  (by decide +kernel : ∀ t : Fin grid0.N, _)

/-- An index of window 8's block is the same index of its array. -/
theorem emb8 (t : Fin cfg0.N) (j : S32x512x8192.Idx) : ((cfg0.win 8).blk t).view.emb j = j := by
  obtain ⟨e0, e1, e2⟩ := idx_zero8 t
  funext a; apply Fin.ext
  match a with
  | ⟨0, _⟩ => show win0_8.index t (0 : Fin 3) * 32 + 1 * (j 0).val = (j 0).val; omega
  | ⟨1, _⟩ => show win0_8.index t (1 : Fin 3) * 512 + 1 * (j 1).val = (j 1).val; omega
  | ⟨2, _⟩ => show win0_8.index t (2 : Fin 3) * 8192 + 1 * (j 2).val = (j 2).val; omega

theorem hz9 : (![0, 0, 0] : Fin 3 → Nat) = fun _ => 0 := funext fun a => by fin_cases a <;> rfl

/-- Window 9's block index at the one point is zero on every axis. -/
theorem idx_zero9 : ∀ t : Fin cfg0.N, win0_9.index t (0 : Fin 3) = 0 ∧ win0_9.index t (1 : Fin 3) = 0 ∧ win0_9.index t (2 : Fin 3) = 0 :=
  (by decide +kernel : ∀ t : Fin grid0.N, _)

/-- An index of window 9's block is the same index of its array. -/
theorem emb9 (t : Fin cfg0.N) (j : S32x512x256.Idx) : ((cfg0.win 9).blk t).view.emb j = j := by
  obtain ⟨e0, e1, e2⟩ := idx_zero9 t
  funext a; apply Fin.ext
  match a with
  | ⟨0, _⟩ => show win0_9.index t (0 : Fin 3) * 32 + 1 * (j 0).val = (j 0).val; omega
  | ⟨1, _⟩ => show win0_9.index t (1 : Fin 3) * 512 + 1 * (j 1).val = (j 1).val; omega
  | ⟨2, _⟩ => show win0_9.index t (2 : Fin 3) * 256 + 1 * (j 2).val = (j 2).val; omega

theorem hz10 : (![0, 0, 0] : Fin 3 → Nat) = fun _ => 0 := funext fun a => by fin_cases a <;> rfl

/-- Window 10's block index at the one point is zero on every axis. -/
theorem idx_zero10 : ∀ t : Fin cfg0.N, win0_10.index t (0 : Fin 3) = 0 ∧ win0_10.index t (1 : Fin 3) = 0 ∧ win0_10.index t (2 : Fin 3) = 0 :=
  (by decide +kernel : ∀ t : Fin grid0.N, _)

/-- An index of window 10's block is the same index of its array. -/
theorem emb10 (t : Fin cfg0.N) (j : S32x512x8192.Idx) : ((cfg0.win 10).blk t).view.emb j = j := by
  obtain ⟨e0, e1, e2⟩ := idx_zero10 t
  funext a; apply Fin.ext
  match a with
  | ⟨0, _⟩ => show win0_10.index t (0 : Fin 3) * 32 + 1 * (j 0).val = (j 0).val; omega
  | ⟨1, _⟩ => show win0_10.index t (1 : Fin 3) * 512 + 1 * (j 1).val = (j 1).val; omega
  | ⟨2, _⟩ => show win0_10.index t (2 : Fin 3) * 8192 + 1 * (j 2).val = (j 2).val; omega

theorem hz11 : (![0, 0, 0] : Fin 3 → Nat) = fun _ => 0 := funext fun a => by fin_cases a <;> rfl

/-- Window 11's block index at the one point is zero on every axis. -/
theorem idx_zero11 : ∀ t : Fin cfg0.N, win0_11.index t (0 : Fin 3) = 0 ∧ win0_11.index t (1 : Fin 3) = 0 ∧ win0_11.index t (2 : Fin 3) = 0 :=
  (by decide +kernel : ∀ t : Fin grid0.N, _)

/-- An index of window 11's block is the same index of its array. -/
theorem emb11 (t : Fin cfg0.N) (j : S32x16x8192.Idx) : ((cfg0.win 11).blk t).view.emb j = j := by
  obtain ⟨e0, e1, e2⟩ := idx_zero11 t
  funext a; apply Fin.ext
  match a with
  | ⟨0, _⟩ => show win0_11.index t (0 : Fin 3) * 32 + 1 * (j 0).val = (j 0).val; omega
  | ⟨1, _⟩ => show win0_11.index t (1 : Fin 3) * 16 + 1 * (j 1).val = (j 1).val; omega
  | ⟨2, _⟩ => show win0_11.index t (2 : Fin 3) * 8192 + 1 * (j 2).val = (j 2).val; omega

/-! ### Output window 6: the array after the run -/

/-- What the window's array ends holding: `out0_6` applied to the argument arrays in place of the input blocks (a value that the
    frame states apart, `kK_payN a…`, keeps its loads inside its own definition). -/
abbrev G6 (a0 : Vec F S32x512x8192 .bf16) (a1 : Vec F S32x512x2048 .fp8e4m3) (a2 : Vec F S32x16x2048 .i8) (a3 : Vec F S8192x2048 .fp8e4m3) (a4 : Vec F S256x2048 .i8) (a5 : Vec F S8192x2048 .f32) : Vec F S32x512x2048 .bf16 :=
  k0_pay15 (k0_pay13 a3 a4) (k0_pay14 (k0_pay19 a0 a1 a2 a3 a4 a5) (k0_pay20 a0 a1 a2 a3 a4 a5))

/-- A load of the whole of a block reads the block, and the one store through the whole rectangle leaves its payload. -/
theorem out6_eq (a0 : Vec F S32x512x8192 .bf16) (a1 : Vec F S32x512x2048 .fp8e4m3) (a2 : Vec F S32x16x2048 .i8) (a3 : Vec F S8192x2048 .fp8e4m3) (a4 : Vec F S256x2048 .i8) (a5 : Vec F S8192x2048 .f32) : out0_6 (F := F) a0 a1 a2 a3 a4 a5 = G6 a0 a1 a2 a3 a4 a5 := by
  unfold out0_6
  rw [View.canon_unit_zero hz6, View.ld_unit_zero (S := S8192x2048) hz3 _ a3, View.ld_unit_zero (S := S256x2048) hz4 _ a4]

/-- Cutting the point's block out of `X` and reading `X` through the block's view give the same. -/
theorem cut6_eq (t : Fin cfg0.N) (X : Vec F S32x512x2048 .bf16) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2) (V m c main_arg3) (V m c main_arg4) (V m c main_arg5)) := by
  show (cfg0.win 6).cut (grid0.coords t) ((dats m 0 c).after 6 t) = _
  rw [after0_6, out6_eq, iblk0_eq, iblk1_eq, iblk2_eq, iblk3_eq, iblk4_eq, iblk5_eq]
  exact cut6_eq t _

/-- Every index of the array is in the point's block. -/
theorem covered6 (i : S32x512x2048.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 6 (G6 (V m c main_arg0) (V m c main_arg1) (V m c main_arg2) (V m c main_arg3) (V m c main_arg4) (V m c main_arg5)) (fun t _ => flushed6_eq m c t) covered6).trans (by rw [V_main_arg0, V_main_arg1, V_main_arg2, V_main_arg3, V_main_arg4, V_main_arg5])

/-! ### Output window 7: the array after the run -/

/-- What the window's array ends holding: `out0_7` applied to the argument arrays in place of the input blocks (a value that the
    frame states apart, `kK_payN a…`, keeps its loads inside its own definition). -/
abbrev G7 (a0 : Vec F S32x512x8192 .bf16) (a1 : Vec F S32x512x2048 .fp8e4m3) (a2 : Vec F S32x16x2048 .i8) (a3 : Vec F S8192x2048 .fp8e4m3) (a4 : Vec F S256x2048 .i8) (a5 : Vec F S8192x2048 .f32) : Vec F S8192x2048 .f32 :=
  k0_pay1 (k0_pay16 (k0_pay21 a0 a1 a2 a3 a4 a5) (k0_pay22 a0 a1 a2 a3 a4 a5)) a1 (k0_pay17 a2) a5

/-- A load of the whole of a block reads the block, and the one store through the whole rectangle leaves its payload. -/
theorem out7_eq (a0 : Vec F S32x512x8192 .bf16) (a1 : Vec F S32x512x2048 .fp8e4m3) (a2 : Vec F S32x16x2048 .i8) (a3 : Vec F S8192x2048 .fp8e4m3) (a4 : Vec F S256x2048 .i8) (a5 : Vec F S8192x2048 .f32) : out0_7 (F := F) a0 a1 a2 a3 a4 a5 = G7 a0 a1 a2 a3 a4 a5 := by
  unfold out0_7
  rw [View.canon_unit_zero hz7, View.ld_unit_zero (S := S32x512x2048) hz1 _ a1, View.ld_unit_zero (S := S32x16x2048) hz2 _ a2, View.ld_unit_zero (S := S8192x2048) hz5 _ a5]

/-- Cutting the point's block out of `X` and reading `X` through the block's view give the same. -/
theorem cut7_eq (t : Fin cfg0.N) (X : Vec F S8192x2048 .f32) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2) (V m c main_arg3) (V m c main_arg4) (V m c main_arg5)) := by
  show (cfg0.win 7).cut (grid0.coords t) ((dats m 0 c).after 7 t) = _
  rw [after0_7, out7_eq, iblk0_eq, iblk1_eq, iblk2_eq, iblk3_eq, iblk4_eq, iblk5_eq]
  exact cut7_eq t _

/-- Every index of the array is in the point's block. -/
theorem covered7 (i : S8192x2048.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 7 (G7 (V m c main_arg0) (V m c main_arg1) (V m c main_arg2) (V m c main_arg3) (V m c main_arg4) (V m c main_arg5)) (fun t _ => flushed7_eq m c t) covered7).trans (by rw [V_main_arg0, V_main_arg1, V_main_arg2, V_main_arg3, V_main_arg4, V_main_arg5])

/-! ### Output window 8: the array after the run -/

/-- What the window's array ends holding: `out0_8` applied to the argument arrays in place of the input blocks (a value that the
    frame states apart, `kK_payN a…`, keeps its loads inside its own definition). -/
abbrev G8 (a0 : Vec F S32x512x8192 .bf16) (a1 : Vec F S32x512x2048 .fp8e4m3) (a2 : Vec F S32x16x2048 .i8) (a3 : Vec F S8192x2048 .fp8e4m3) (a4 : Vec F S256x2048 .i8) (a5 : Vec F S8192x2048 .f32) : Vec F S32x512x8192 .fp8e5m2 :=
  k0_pay19 a0 a1 a2 a3 a4 a5

/-- The one store through the whole rectangle leaves its payload. -/
theorem out8_eq (a0 : Vec F S32x512x8192 .bf16) (a1 : Vec F S32x512x2048 .fp8e4m3) (a2 : Vec F S32x16x2048 .i8) (a3 : Vec F S8192x2048 .fp8e4m3) (a4 : Vec F S256x2048 .i8) (a5 : Vec F S8192x2048 .f32) : out0_8 (F := F) a0 a1 a2 a3 a4 a5 = G8 a0 a1 a2 a3 a4 a5 := by
  unfold out0_8
  rw [View.canon_unit_zero hz8]

/-- Cutting the point's block out of `X` and reading `X` through the block's view give the same. -/
theorem cut8_eq (t : Fin cfg0.N) (X : Vec F S32x512x8192 .fp8e5m2) :
    (cfg0.win 8).cut (grid0.coords t) X = ((cfg0.win 8).blk t).view.read (Elt F) X := by
  funext j
  show X j = X (((cfg0.win 8).blk t).view.emb j)
  rw [emb8]

/-- WHAT THE POINT WRITES BACK is its block of `G8` of the argument arrays as the region finds them. -/
theorem flushed8_eq (c : Dev nD) (t : Fin cfg0.N) :
    (dats m 0 c).flushed 8 t = ((cfg0.win 8).blk t).view.read (Elt F) (G8 (V m c main_arg0) (V m c main_arg1) (V m c main_arg2) (V m c main_arg3) (V m c main_arg4) (V m c main_arg5)) := by
  show (cfg0.win 8).cut (grid0.coords t) ((dats m 0 c).after 8 t) = _
  rw [after0_8, out8_eq, iblk0_eq, iblk1_eq, iblk2_eq, iblk3_eq, iblk4_eq, iblk5_eq]
  exact cut8_eq t _

/-- Every index of the array is in the point's block. -/
theorem covered8 (i : S32x512x8192.Idx) :
    ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

/-- THE ARRAY after the run: `G8` of the argument arrays as launched. -/
theorem final8 (c : Dev nD) : (dats m 0 c).arrAt 8 cfg0.N = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 8 (G8 (V m c main_arg0) (V m c main_arg1) (V m c main_arg2) (V m c main_arg3) (V m c main_arg4) (V m c main_arg5)) (fun t _ => flushed8_eq m c t) covered8).trans (by rw [V_main_arg0, V_main_arg1, V_main_arg2, V_main_arg3, V_main_arg4, V_main_arg5])

/-! ### Output window 9: the array after the run -/

/-- What the window's array ends holding: `out0_9` applied to the argument arrays in place of the input blocks (a value that the
    frame states apart, `kK_payN a…`, keeps its loads inside its own definition). -/
abbrev G9 (a0 : Vec F S32x512x8192 .bf16) (a1 : Vec F S32x512x2048 .fp8e4m3) (a2 : Vec F S32x16x2048 .i8) (a3 : Vec F S8192x2048 .fp8e4m3) (a4 : Vec F S256x2048 .i8) (a5 : Vec F S8192x2048 .f32) : Vec F S32x512x256 .i8 :=
  k0_pay20 a0 a1 a2 a3 a4 a5

/-- The one store through the whole rectangle leaves its payload. -/
theorem out9_eq (a0 : Vec F S32x512x8192 .bf16) (a1 : Vec F S32x512x2048 .fp8e4m3) (a2 : Vec F S32x16x2048 .i8) (a3 : Vec F S8192x2048 .fp8e4m3) (a4 : Vec F S256x2048 .i8) (a5 : Vec F S8192x2048 .f32) : out0_9 (F := F) a0 a1 a2 a3 a4 a5 = G9 a0 a1 a2 a3 a4 a5 := by
  unfold out0_9
  rw [View.canon_unit_zero hz9]

/-- Cutting the point's block out of `X` and reading `X` through the block's view give the same. -/
theorem cut9_eq (t : Fin cfg0.N) (X : Vec F S32x512x256 .i8) :
    (cfg0.win 9).cut (grid0.coords t) X = ((cfg0.win 9).blk t).view.read (Elt F) X := by
  funext j
  show X j = X (((cfg0.win 9).blk t).view.emb j)
  rw [emb9]

/-- WHAT THE POINT WRITES BACK is its block of `G9` of the argument arrays as the region finds them. -/
theorem flushed9_eq (c : Dev nD) (t : Fin cfg0.N) :
    (dats m 0 c).flushed 9 t = ((cfg0.win 9).blk t).view.read (Elt F) (G9 (V m c main_arg0) (V m c main_arg1) (V m c main_arg2) (V m c main_arg3) (V m c main_arg4) (V m c main_arg5)) := by
  show (cfg0.win 9).cut (grid0.coords t) ((dats m 0 c).after 9 t) = _
  rw [after0_9, out9_eq, iblk0_eq, iblk1_eq, iblk2_eq, iblk3_eq, iblk4_eq, iblk5_eq]
  exact cut9_eq t _

/-- Every index of the array is in the point's block. -/
theorem covered9 (i : S32x512x256.Idx) :
    ∃ t : Fin cfg0.N, (cfg0.win 9).flush t = true ∧ i ∈ ((cfg0.win 9).blk t).view.set :=
  ⟨(⟨0, by decide⟩ : Fin cfg0.N), flush0_9 _, by have h := ((cfg0.win 9).blk (⟨0, by decide⟩ : Fin cfg0.N)).view.emb_mem_set i; rwa [emb9] at h⟩

/-- THE ARRAY after the run: `G9` of the argument arrays as launched. -/
theorem final9 (c : Dev nD) : (dats m 0 c).arrAt 9 cfg0.N = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 9 (G9 (V m c main_arg0) (V m c main_arg1) (V m c main_arg2) (V m c main_arg3) (V m c main_arg4) (V m c main_arg5)) (fun t _ => flushed9_eq m c t) covered9).trans (by rw [V_main_arg0, V_main_arg1, V_main_arg2, V_main_arg3, V_main_arg4, V_main_arg5])

/-! ### Output window 10: the array after the run -/

/-- What the window's array ends holding: `out0_10` applied to the argument arrays in place of the input blocks (a value that the
    frame states apart, `kK_payN a…`, keeps its loads inside its own definition). -/
abbrev G10 (a0 : Vec F S32x512x8192 .bf16) (a1 : Vec F S32x512x2048 .fp8e4m3) (a2 : Vec F S32x16x2048 .i8) (a3 : Vec F S8192x2048 .fp8e4m3) (a4 : Vec F S256x2048 .i8) (a5 : Vec F S8192x2048 .f32) : Vec F S32x512x8192 .fp8e5m2 :=
  k0_pay21 a0 a1 a2 a3 a4 a5

/-- The one store through the whole rectangle leaves its payload. -/
theorem out10_eq (a0 : Vec F S32x512x8192 .bf16) (a1 : Vec F S32x512x2048 .fp8e4m3) (a2 : Vec F S32x16x2048 .i8) (a3 : Vec F S8192x2048 .fp8e4m3) (a4 : Vec F S256x2048 .i8) (a5 : Vec F S8192x2048 .f32) : out0_10 (F := F) a0 a1 a2 a3 a4 a5 = G10 a0 a1 a2 a3 a4 a5 := by
  unfold out0_10
  rw [View.canon_unit_zero hz10]

/-- Cutting the point's block out of `X` and reading `X` through the block's view give the same. -/
theorem cut10_eq (t : Fin cfg0.N) (X : Vec F S32x512x8192 .fp8e5m2) :
    (cfg0.win 10).cut (grid0.coords t) X = ((cfg0.win 10).blk t).view.read (Elt F) X := by
  funext j
  show X j = X (((cfg0.win 10).blk t).view.emb j)
  rw [emb10]

/-- WHAT THE POINT WRITES BACK is its block of `G10` of the argument arrays as the region finds them. -/
theorem flushed10_eq (c : Dev nD) (t : Fin cfg0.N) :
    (dats m 0 c).flushed 10 t = ((cfg0.win 10).blk t).view.read (Elt F) (G10 (V m c main_arg0) (V m c main_arg1) (V m c main_arg2) (V m c main_arg3) (V m c main_arg4) (V m c main_arg5)) := by
  show (cfg0.win 10).cut (grid0.coords t) ((dats m 0 c).after 10 t) = _
  rw [after0_10, out10_eq, iblk0_eq, iblk1_eq, iblk2_eq, iblk3_eq, iblk4_eq, iblk5_eq]
  exact cut10_eq t _

/-- Every index of the array is in the point's block. -/
theorem covered10 (i : S32x512x8192.Idx) :
    ∃ t : Fin cfg0.N, (cfg0.win 10).flush t = true ∧ i ∈ ((cfg0.win 10).blk t).view.set :=
  ⟨(⟨0, by decide⟩ : Fin cfg0.N), flush0_10 _, by have h := ((cfg0.win 10).blk (⟨0, by decide⟩ : Fin cfg0.N)).view.emb_mem_set i; rwa [emb10] at h⟩

/-- THE ARRAY after the run: `G10` of the argument arrays as launched. -/
theorem final10 (c : Dev nD) : (dats m 0 c).arrAt 10 cfg0.N = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 10 (G10 (V m c main_arg0) (V m c main_arg1) (V m c main_arg2) (V m c main_arg3) (V m c main_arg4) (V m c main_arg5)) (fun t _ => flushed10_eq m c t) covered10).trans (by rw [V_main_arg0, V_main_arg1, V_main_arg2, V_main_arg3, V_main_arg4, V_main_arg5])

/-! ### Output window 11: the array after the run -/

/-- What the window's array ends holding: `out0_11` applied to the argument arrays in place of the input blocks (a value that the
    frame states apart, `kK_payN a…`, keeps its loads inside its own definition). -/
abbrev G11 (a0 : Vec F S32x512x8192 .bf16) (a1 : Vec F S32x512x2048 .fp8e4m3) (a2 : Vec F S32x16x2048 .i8) (a3 : Vec F S8192x2048 .fp8e4m3) (a4 : Vec F S256x2048 .i8) (a5 : Vec F S8192x2048 .f32) : Vec F S32x16x8192 .i8 :=
  k0_pay22 a0 a1 a2 a3 a4 a5

/-- The one store through the whole rectangle leaves its payload. -/
theorem out11_eq (a0 : Vec F S32x512x8192 .bf16) (a1 : Vec F S32x512x2048 .fp8e4m3) (a2 : Vec F S32x16x2048 .i8) (a3 : Vec F S8192x2048 .fp8e4m3) (a4 : Vec F S256x2048 .i8) (a5 : Vec F S8192x2048 .f32) : out0_11 (F := F) a0 a1 a2 a3 a4 a5 = G11 a0 a1 a2 a3 a4 a5 := by
  unfold out0_11
  rw [View.canon_unit_zero hz11]

/-- Cutting the point's block out of `X` and reading `X` through the block's view give the same. -/
theorem cut11_eq (t : Fin cfg0.N) (X : Vec F S32x16x8192 .i8) :
    (cfg0.win 11).cut (grid0.coords t) X = ((cfg0.win 11).blk t).view.read (Elt F) X := by
  funext j
  show X j = X (((cfg0.win 11).blk t).view.emb j)
  rw [emb11]

/-- WHAT THE POINT WRITES BACK is its block of `G11` of the argument arrays as the region finds them. -/
theorem flushed11_eq (c : Dev nD) (t : Fin cfg0.N) :
    (dats m 0 c).flushed 11 t = ((cfg0.win 11).blk t).view.read (Elt F) (G11 (V m c main_arg0) (V m c main_arg1) (V m c main_arg2) (V m c main_arg3) (V m c main_arg4) (V m c main_arg5)) := by
  show (cfg0.win 11).cut (grid0.coords t) ((dats m 0 c).after 11 t) = _
  rw [after0_11, out11_eq, iblk0_eq, iblk1_eq, iblk2_eq, iblk3_eq, iblk4_eq, iblk5_eq]
  exact cut11_eq t _

/-- Every index of the array is in the point's block. -/
theorem covered11 (i : S32x16x8192.Idx) :
    ∃ t : Fin cfg0.N, (cfg0.win 11).flush t = true ∧ i ∈ ((cfg0.win 11).blk t).view.set :=
  ⟨(⟨0, by decide⟩ : Fin cfg0.N), flush0_11 _, by have h := ((cfg0.win 11).blk (⟨0, by decide⟩ : Fin cfg0.N)).view.emb_mem_set i; rwa [emb11] at h⟩

/-- THE ARRAY after the run: `G11` of the argument arrays as launched. -/
theorem final11 (c : Dev nD) : (dats m 0 c).arrAt 11 cfg0.N = G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 11 (G11 (V m c main_arg0) (V m c main_arg1) (V m c main_arg2) (V m c main_arg3) (V m c main_arg4) (V m c main_arg5)) (fun t _ => flushed11_eq m c t) covered11).trans (by rw [V_main_arg0, V_main_arg1, V_main_arg2, V_main_arg3, V_main_arg4, V_main_arg5])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_1) = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_2) = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_3) = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_4) = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_5) = G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(post6 m r h c).trans (final6 m c),
      (post7 m r h c).trans (final7 m c),
      (post8 m r h c).trans (final8 m c),
      (post9 m r h c).trans (final9 m c),
      (post10 m r h c).trans (final10 m c),
      (post11 m r h c).trans (final11 m c),
      kept_main_arg0 m r h c,
      kept_main_arg1 m r h c,
      kept_main_arg2 m r h c,
      kept_main_arg3 m r h c,
      kept_main_arg4 m r h c,
      kept_main_arg5 m r h c⟩)
    (run_main m ρ)

end Cert.RefRun

end
-- ==== Proof.RefVal.lean ====
/- The reference's six results at an index: its reshapes, block maxima, exponents and products read as the plain
   mathematics of `Spec`. -/
module

public import proofs.«01_k».proof.Proof.RefRun
public import proofs.«01_k».proof.Proof.Spec
public import Idealize.ShloMosaic.Lib.Pipeline.Value
public import Idealize.ShloMosaic.Lib.Pointwise.Contract
public import proofs.«01_k».proof.Proof.Blocks

@[expose] public section

noncomputable section

namespace Cert.RefVal

open Idealize.ShloMosaic hiding ix2 ix3 ix4
open Idealize.ShloMosaic.ValueIdx Cert.ReferenceIdeal Cert.ReferenceIdeal.Gen Cert.Mx

/-- The maximum over the last of four axes, at an index. -/
theorem reduce_last {A B C n : ℕ} (x : FVec Ideal ⟨4, ![A, B, C, n]⟩ .f32) (h : (⟨4, ![A, B, C, n]⟩ : Shape).Reduces [3] ⟨3, ![A, B, C]⟩)
    (hφ : FKind.Formats .f32) (hacc : 0xFF800000#32 = FKind.maximumf.neutral .f32 hφ) (a : Fin A) (b : Fin B) (c : Fin C) :
    multiReduction (F := Ideal) .maximumf [3] ⟨3, ![A, B, C]⟩ x 0xFF800000#32 h hφ hacc (ix3 a b c)
      = Finset.univ.sup fun q : Fin n => x (ix4 a b c q) := by
  rw [Ideal.multiReduction_maximumf_single]
  refine (fold_sup _).trans (congrArg _ (funext fun q => congrArg x (funext fun i => Fin.ext ?_)))
  match i with
  | ⟨0, _⟩ => rfl
  | ⟨1, _⟩ => rfl
  | ⟨2, _⟩ => rfl
  | ⟨3, _⟩ => rfl

/-- The maximum over the third of four axes, at an index. -/
theorem reduce_third {A B C n : ℕ} (x : FVec Ideal ⟨4, ![A, B, n, C]⟩ .f32) (h : (⟨4, ![A, B, n, C]⟩ : Shape).Reduces [2] ⟨3, ![A, B, C]⟩)
    (hφ : FKind.Formats .f32) (hacc : 0xFF800000#32 = FKind.maximumf.neutral .f32 hφ) (a : Fin A) (b : Fin B) (c : Fin C) :
    multiReduction (F := Ideal) .maximumf [2] ⟨3, ![A, B, C]⟩ x 0xFF800000#32 h hφ hacc (ix3 a b c)
      = Finset.univ.sup fun q : Fin n => x (ix4 a b q c) := by
  rw [Ideal.multiReduction_maximumf_single]
  refine (fold_sup _).trans (congrArg _ (funext fun q => congrArg x (funext fun i => Fin.ext ?_)))
  match i with
  | ⟨0, _⟩ => rfl
  | ⟨1, _⟩ => rfl
  | ⟨2, _⟩ => rfl
  | ⟨3, _⟩ => rfl

/-- The named constant is the natural logarithm of 2. -/
theorem ln2 : Named.named (F := Ideal) (φ := .f32) κ "ln2" 0x3F317218#32 = ((Real.log 2 : ℝ) : EReal) := rfl

/-- The exponent computed at every index of an array, at one index. -/
theorem expoTail {sh : Shape} (z : FVec Ideal sh .f32) (j : sh.Idx) :
    select
      (ori
        (cmpf CmpFPredicate.olt (mulf z (broadcast sh (FloatOps.ofBits FTy.f32 932333861#32)))
          (broadcast sh (FloatOps.ofBits FTy.f32 8388608#32)))
        (cmpf CmpFPredicate.oeq (mulf z (broadcast sh (FloatOps.ofBits FTy.f32 932333861#32)))
          (broadcast sh (FloatOps.ofBits FTy.f32 2139095040#32))))
      (broadcast sh 0#32)
      (addi
        (fptosi 32
          (floor
            (divf (log (mulf z (broadcast sh (FloatOps.ofBits FTy.f32 932333861#32))))
              (broadcast sh (Real.log 2 : EReal)))))
        (broadcast sh 1#32))
      j = expoW (pOf (z j)) := rfl

/-! ## Row blocks -/

/-- `dy` cast to blocks of columns, at an index. -/
theorem row_cast {α : Type} (X : S32x512x8192.Idx → α) (h : S32x512x8192.ShapeCasts S32x512x256x32) (s : Fin 32) (t : Fin 512) (b : Fin 256) (k : Fin 32)
    (n : Fin 8192) (hn : n.val = 32 * b.val + k.val) : shapeCast S32x512x256x32 X h (ix4 s t b k) = X (ix3 s t n) :=
  shapeCast_apply X h _ _ (by
    rw [Shape.rowMajor_val_four, Shape.rowMajor_val_three]
    show (s.val * 512 + t.val) * 8192 + n.val = ((s.val * 512 + t.val) * 256 + b.val) * 32 + k.val
    omega)

/-- And back. -/
theorem row_uncast {α : Type} (X : S32x512x256x32.Idx → α) (h : S32x512x256x32.ShapeCasts S32x512x8192) (s : Fin 32) (t : Fin 512) (b : Fin 256) (k : Fin 32)
    (n : Fin 8192) (hn : n.val = 32 * b.val + k.val) : shapeCast S32x512x8192 X h (ix3 s t n) = X (ix4 s t b k) :=
  shapeCast_apply X h _ _ (by
    rw [Shape.rowMajor_val_four, Shape.rowMajor_val_three]
    show ((s.val * 512 + t.val) * 256 + b.val) * 32 + k.val = (s.val * 512 + t.val) * 8192 + n.val
    omega)

/-- A unit last axis added. -/
theorem row_unit {α : Type} (X : S32x512x256.Idx → α) (h : S32x512x256.ShapeCasts S32x512x256x1) (s : Fin 32) (t : Fin 512) (b : Fin 256) :
    shapeCast S32x512x256x1 X h (ix4 s t b 0) = X (ix3 s t b) :=
  shapeCast_apply X h _ _ (by
    rw [Shape.rowMajor_val_four, Shape.rowMajor_val_three]
    show (s.val * 512 + t.val) * 256 + b.val = ((s.val * 512 + t.val) * 256 + b.val) * 1 + 0
    omega)

/-- A unit last axis dropped. -/
theorem row_ununit {α : Type} (X : S32x512x256x1.Idx → α) (h : S32x512x256x1.ShapeCasts S32x512x256) (s : Fin 32) (t : Fin 512) (b : Fin 256) :
    shapeCast S32x512x256 X h (ix3 s t b) = X (ix4 s t b 0) :=
  shapeCast_apply X h _ _ (by
    rw [Shape.rowMajor_val_four, Shape.rowMajor_val_three]
    show ((s.val * 512 + t.val) * 256 + b.val) * 1 + 0 = (s.val * 512 + t.val) * 256 + b.val
    omega)

/-- A broadcast along the last axis. -/
theorem row_bcast {α : Type} (X : S32x512x256x1.Idx → α) (h : S32x512x256x1.Broadcasts S32x512x256x32) (s : Fin 32) (t : Fin 512) (b : Fin 256) (k : Fin 32) :
    broadcastTo S32x512x256x32 X h (ix4 s t b k) = X (ix4 s t b 0) :=
  broadcastTo_apply X h _ _ (fun a => by
    match a with
    | ⟨0, _⟩ => rfl
    | ⟨1, _⟩ => rfl
    | ⟨2, _⟩ => rfl
    | ⟨3, _⟩ => rfl)

/-- The exponent of a row block. -/
theorem row_expo (X : FVec Ideal S32x512x8192 .bf16) (s : Fin 32) (t : Fin 512) (b : Fin 256) :
    k0_pay4 (F := Ideal) X (ix4 s t b 0) = expoW (pOf (amax (rowBlk X s t b))) := by
  have h : shapeCast S32x512x256x1 (multiReduction (F := Ideal) .maximumf [3] S32x512x256 (absf (k0_pay3 (F := Ideal) X)) 0xFF800000#32 reduces_S32x512x256x32_S32x512x256 (.inl rfl) rfl)
      shapeCasts_S32x512x256_S32x512x256x1 (ix4 s t b 0) = amax (rowBlk X s t b) := by
    refine (row_unit _ _ s t b).trans ((reduce_last _ _ _ _ s t b).trans ?_)
    unfold amax
    refine congrArg _ (funext fun k => ?_)
    exact congrArg (fun z : EReal => max z (-z)) (row_cast _ shapeCasts_S32x512x8192_S32x512x256x32 s t b k _ rfl)
  unfold k0_pay4
  simp only [ln2]
  revert h
  generalize shapeCast S32x512x256x1 (multiReduction (F := Ideal) .maximumf [3] S32x512x256 (absf (k0_pay3 (F := Ideal) X)) 0xFF800000#32 reduces_S32x512x256x32_S32x512x256 (.inl rfl) rfl)
      shapeCasts_S32x512x256_S32x512x256x1 = z
  intro h
  exact (expoTail _ _).trans (congrArg (fun a => expoW (pOf a)) h)

/-- A row code. -/
theorem row_code (X : FVec Ideal S32x512x8192 .bf16) (hX : ∀ i, Good (X i)) (s : Fin 32) (t : Fin 512) (n : Fin 8192) :
    k0_pay5 (F := Ideal) X (ix3 s t n) = rowCode X s t n := by
  unfold k0_pay5
  refine (row_uncast _ shapeCasts_S32x512x256x32_S32x512x8192 s t (blkN n) (⟨n.val % 32, by omega⟩ : Fin 32) n
    (by show n.val = 32 * (n.val / 32) + n.val % 32; omega)).trans ?_
  unfold rowCode codeV
  rw [← rInv (rowBlk X s t (blkN n)) (fun k => hX _), ← row_expo]
  refine congrArg (fun z => min (Ideal.ofBits .f32 0x47600000#32) (max (Ideal.ofBits .f32 0xC7600000#32) z)) (congrArg₂ (· * ·) ?_ ?_)
  · exact row_cast _ shapeCasts_S32x512x8192_S32x512x256x32 s t (blkN n) _ n (by show n.val = 32 * (n.val / 32) + n.val % 32; omega)
  · exact (row_bcast _ broadcasts_S32x512x256x1_S32x512x256x32 s t (blkN n) _).trans rfl

/-- A row scale byte. -/
theorem row_byte (X : FVec Ideal S32x512x8192 .bf16) (hX : ∀ i, Good (X i)) (s : Fin 32) (t : Fin 512) (b : Fin 256) :
    k0_pay7 (k0_pay6 (F := Ideal) X) (ix3 s t b) = rowByte X s t b := by
  unfold rowByte
  rw [← rByte (rowBlk X s t b) (fun k => hX _), ← row_expo]
  unfold k0_pay6
  exact congrArg (fun z : BitVec 32 => (IntOp.addi z 127#32).setWidth 8) (row_ununit _ shapeCasts_S32x512x256x1_S32x512x256 s t b)

/-! ## Column blocks -/

/-- `dy` cast to blocks of rows, at an index. -/
theorem col_cast {α : Type} {C : ℕ} (X : (⟨3, ![32, 512, C]⟩ : Shape).Idx → α) (h : (⟨3, ![32, 512, C]⟩ : Shape).ShapeCasts ⟨4, ![32, 16, 32, C]⟩) (s : Fin 32) (g : Fin 16) (k : Fin 32) (n : Fin C)
    (t : Fin 512) (ht : t.val = 32 * g.val + k.val) : shapeCast ⟨4, ![32, 16, 32, C]⟩ X h (ix4 s g k n) = X (ix3 s t n) :=
  shapeCast_apply X h _ _ (by
    rw [Shape.rowMajor_val_four, Shape.rowMajor_val_three]
    show (s.val * 512 + t.val) * C + n.val = ((s.val * 16 + g.val) * 32 + k.val) * C + n.val
    rw [ht]; ring)

/-- And back. -/
theorem col_uncast {α : Type} {C : ℕ} (X : (⟨4, ![32, 16, 32, C]⟩ : Shape).Idx → α) (h : (⟨4, ![32, 16, 32, C]⟩ : Shape).ShapeCasts ⟨3, ![32, 512, C]⟩) (s : Fin 32) (g : Fin 16) (k : Fin 32) (n : Fin C)
    (t : Fin 512) (ht : t.val = 32 * g.val + k.val) : shapeCast ⟨3, ![32, 512, C]⟩ X h (ix3 s t n) = X (ix4 s g k n) :=
  shapeCast_apply X h _ _ (by
    rw [Shape.rowMajor_val_four, Shape.rowMajor_val_three]
    show ((s.val * 16 + g.val) * 32 + k.val) * C + n.val = (s.val * 512 + t.val) * C + n.val
    rw [ht]; ring)

/-- A unit third axis added. -/
theorem col_unit {α : Type} {C : ℕ} (X : (⟨3, ![32, 16, C]⟩ : Shape).Idx → α) (h : (⟨3, ![32, 16, C]⟩ : Shape).ShapeCasts ⟨4, ![32, 16, 1, C]⟩) (s : Fin 32) (g : Fin 16) (n : Fin C) :
    shapeCast ⟨4, ![32, 16, 1, C]⟩ X h (ix4 s g 0 n) = X (ix3 s g n) :=
  shapeCast_apply X h _ _ (by
    rw [Shape.rowMajor_val_four, Shape.rowMajor_val_three]
    show (s.val * 16 + g.val) * C + n.val = ((s.val * 16 + g.val) * 1 + 0) * C + n.val
    ring)

/-- A unit third axis dropped. -/
theorem col_ununit {α : Type} {C : ℕ} (X : (⟨4, ![32, 16, 1, C]⟩ : Shape).Idx → α) (h : (⟨4, ![32, 16, 1, C]⟩ : Shape).ShapeCasts ⟨3, ![32, 16, C]⟩) (s : Fin 32) (g : Fin 16) (n : Fin C) :
    shapeCast ⟨3, ![32, 16, C]⟩ X h (ix3 s g n) = X (ix4 s g 0 n) :=
  shapeCast_apply X h _ _ (by
    rw [Shape.rowMajor_val_four, Shape.rowMajor_val_three]
    show ((s.val * 16 + g.val) * 1 + 0) * C + n.val = (s.val * 16 + g.val) * C + n.val
    ring)

/-- A broadcast along the third axis. -/
theorem col_bcast {α : Type} {C : ℕ} (X : (⟨4, ![32, 16, 1, C]⟩ : Shape).Idx → α) (h : (⟨4, ![32, 16, 1, C]⟩ : Shape).Broadcasts ⟨4, ![32, 16, 32, C]⟩) (s : Fin 32) (g : Fin 16) (k : Fin 32) (n : Fin C) :
    broadcastTo ⟨4, ![32, 16, 32, C]⟩ X h (ix4 s g k n) = X (ix4 s g 0 n) :=
  broadcastTo_apply X h _ _ (fun a => by
    match a with
    | ⟨0, _⟩ => rfl
    | ⟨1, _⟩ => rfl
    | ⟨2, _⟩ => rfl
    | ⟨3, _⟩ =>
      show n.val = if C = 1 then 0 else n.val
      split_ifs with h1
      · have := n.isLt; omega
      · rfl)

/-- The exponent of a column block. -/
theorem col_expo (X : FVec Ideal S32x512x8192 .bf16) (s : Fin 32) (g : Fin 16) (n : Fin 8192) :
    k0_pay9 (F := Ideal) (k0_pay2 (F := Ideal) X) (ix4 s g 0 n) = expoW (pOf (amax (colBlk X s g n))) := by
  have h : shapeCast S32x16x1x8192 (multiReduction (F := Ideal) .maximumf [2] S32x16x8192 (absf (k0_pay8 (F := Ideal) (k0_pay2 (F := Ideal) X))) 0xFF800000#32 reduces_S32x16x32x8192_S32x16x8192 (.inl rfl) rfl)
      shapeCasts_S32x16x8192_S32x16x1x8192 (ix4 s g 0 n) = amax (colBlk X s g n) := by
    refine (col_unit _ _ s g n).trans ((reduce_third _ _ _ _ s g n).trans ?_)
    unfold amax
    refine congrArg _ (funext fun k => ?_)
    exact congrArg (fun z : EReal => max z (-z)) (col_cast _ shapeCasts_S32x512x8192_S32x16x32x8192 s g k n _ rfl)
  unfold k0_pay9
  simp only [ln2]
  revert h
  generalize shapeCast S32x16x1x8192 (multiReduction (F := Ideal) .maximumf [2] S32x16x8192 (absf (k0_pay8 (F := Ideal) (k0_pay2 (F := Ideal) X))) 0xFF800000#32 reduces_S32x16x32x8192_S32x16x8192 (.inl rfl) rfl)
      shapeCasts_S32x16x8192_S32x16x1x8192 = z
  intro h
  exact (expoTail _ _).trans (congrArg (fun a => expoW (pOf a)) h)

/-- A column code. -/
theorem col_code (X : FVec Ideal S32x512x8192 .bf16) (hX : ∀ i, Good (X i)) (s : Fin 32) (t : Fin 512) (n : Fin 8192) :
    k0_pay10 (F := Ideal) (k0_pay2 (F := Ideal) X) (ix3 s t n) = colCodeS X s t n := by
  unfold k0_pay10
  have ht : t.val = 32 * (blkT t).val + (⟨t.val % 32, by omega⟩ : Fin 32).val := by show t.val = 32 * (t.val / 32) + t.val % 32; omega
  refine (col_uncast _ shapeCasts_S32x16x32x8192_S32x512x8192 s (blkT t) (⟨t.val % 32, by omega⟩ : Fin 32) n t ht).trans ?_
  unfold colCodeS codeV
  rw [← rInv (colBlk X s (blkT t) n) (fun k => hX _), ← col_expo]
  refine congrArg (fun z => min (Ideal.ofBits .f32 0x47600000#32) (max (Ideal.ofBits .f32 0xC7600000#32) z)) (congrArg₂ (· * ·) ?_ ?_)
  · exact col_cast _ shapeCasts_S32x512x8192_S32x16x32x8192 s (blkT t) _ n t ht
  · exact (col_bcast _ broadcasts_S32x16x1x8192_S32x16x32x8192 s (blkT t) _ n).trans rfl

/-- A column scale byte. -/
theorem col_byte (X : FVec Ideal S32x512x8192 .bf16) (hX : ∀ i, Good (X i)) (s : Fin 32) (g : Fin 16) (n : Fin 8192) :
    k0_pay12 (k0_pay11 (F := Ideal) (k0_pay2 (F := Ideal) X)) 127#32 (ix3 s g n) = colByteS X s g n := by
  unfold colByteS
  rw [← rByte (colBlk X s g n) (fun k => hX _), ← col_expo]
  unfold k0_pay11
  exact congrArg (fun z : BitVec 32 => (IntOp.addi z 127#32).setWidth 8) (col_ununit _ shapeCasts_S32x16x1x8192_S32x16x8192 s g n)

/-! ## The decoded operands -/

/-- The rows of all slabs one after the other. -/
theorem flat_cast {α : Type} {C : ℕ} (X : (⟨3, ![32, 512, C]⟩ : Shape).Idx → α) (h : (⟨3, ![32, 512, C]⟩ : Shape).ShapeCasts ⟨2, ![16384, C]⟩) (T : Fin 16384) (n : Fin C) :
    shapeCast ⟨2, ![16384, C]⟩ X h (ix2 T n) = X (ix3 (slab T) (slot T) n) :=
  shapeCast_apply X h _ _ (by
    rw [Shape.rowMajor_val_two, Shape.rowMajor_val_three]
    show (T.val / 512 * 512 + T.val % 512) * C + n.val = T.val * C + n.val
    rw [show T.val / 512 * 512 + T.val % 512 = T.val by omega])

/-- And back. -/
theorem flat_uncast {α : Type} {C : ℕ} (X : (⟨2, ![16384, C]⟩ : Shape).Idx → α) (h : (⟨2, ![16384, C]⟩ : Shape).ShapeCasts ⟨3, ![32, 512, C]⟩) (s : Fin 32) (t : Fin 512) (n : Fin C) :
    shapeCast ⟨3, ![32, 512, C]⟩ X h (ix3 s t n) = X (ix2 (⟨512 * s.val + t.val, by omega⟩ : Fin 16384) n) :=
  shapeCast_apply X h _ _ (by
    rw [Shape.rowMajor_val_two, Shape.rowMajor_val_three]
    show (512 * s.val + t.val) * C + n.val = (s.val * 512 + t.val) * C + n.val
    ring)

/-- A value decoded from its row code. -/
theorem row_deq (X : FVec Ideal S32x512x8192 .bf16) (hX : ∀ i, Good (X i)) (T : Fin 16384) (n : Fin 8192) :
    k0_pay14 (F := Ideal) (k0_pay5 (F := Ideal) X) (k0_pay7 (k0_pay6 (F := Ideal) X)) (ix2 T n) = rowDeq X (slab T) (slot T) n := by
  unfold k0_pay14
  have hn : n.val = 32 * (blkN n).val + (⟨n.val % 32, by omega⟩ : Fin 32).val := by show n.val = 32 * (n.val / 32) + n.val % 32; omega
  refine (flat_cast _ shapeCasts_S32x512x8192_S16384x8192 T n).trans ?_
  refine (row_uncast _ shapeCasts_S32x512x256x32_S32x512x8192 _ _ (blkN n) _ n hn).trans ?_
  unfold rowDeq deqV
  rw [← rScaleN, ← rScale]
  refine congrArg₂ (· * ·) ?_ ?_
  · exact (row_cast _ shapeCasts_S32x512x8192_S32x512x256x32 _ _ (blkN n) _ n hn).trans (row_code X hX _ _ _)
  · refine (row_bcast _ broadcasts_S32x512x256x1_S32x512x256x32 _ _ (blkN n) _).trans ?_
    refine (row_unit _ shapeCasts_S32x512x256_S32x512x256x1 _ _ (blkN n)).trans ?_
    exact congrArg (fun z : BitVec 8 => ldexpW (IntOp.subi (z.setWidth 32) 127#32)) (row_byte X hX _ _ _)

/-- A value decoded from its column code. -/
theorem col_deq (X : FVec Ideal S32x512x8192 .bf16) (hX : ∀ i, Good (X i)) (s : Fin 32) (t : Fin 512) (n : Fin 8192) :
    k0_pay16 (F := Ideal) (k0_pay10 (F := Ideal) (k0_pay2 (F := Ideal) X)) (k0_pay12 (k0_pay11 (F := Ideal) (k0_pay2 (F := Ideal) X)) 127#32) (ix3 s t n)
      = colDeq X s t n := by
  unfold k0_pay16
  have ht : t.val = 32 * (blkT t).val + (⟨t.val % 32, by omega⟩ : Fin 32).val := by show t.val = 32 * (t.val / 32) + t.val % 32; omega
  refine (col_uncast _ shapeCasts_S32x16x32x8192_S32x512x8192 s (blkT t) _ n t ht).trans ?_
  unfold colDeq deqV
  rw [← rScaleN, ← rScale]
  refine congrArg₂ (· * ·) ?_ ?_
  · exact (col_cast _ shapeCasts_S32x512x8192_S32x16x32x8192 s (blkT t) _ n t ht).trans (col_code X hX _ _ _)
  · refine (col_bcast _ broadcasts_S32x16x1x8192_S32x16x32x8192 s (blkT t) _ n).trans ?_
    refine (col_unit _ shapeCasts_S32x16x8192_S32x16x1x8192 s (blkT t) n).trans ?_
    exact congrArg (fun z : BitVec 8 => ldexpW (IntOp.subi (z.setWidth 32) 127#32)) (col_byte X hX _ _ _)

/-- A decoded weight. -/
theorem w_deq (w : FVec Ideal S8192x2048 .fp8e4m3) (ws : IVec S256x2048 8) (n : Fin 8192) (k : Fin 2048) :
    k0_pay13 (F := Ideal) w ws (ix2 n k) = wDeq w ws n k := by
  unfold k0_pay13
  have hn : n.val = 32 * (blkN n).val + (⟨n.val % 32, by omega⟩ : Fin 32).val := by show n.val = 32 * (n.val / 32) + n.val % 32; omega
  refine (cast_rows _ shapeCasts_S256x32x2048_S8192x2048 (blkN n) _ k n hn).trans ?_
  unfold wDeq
  rw [← rScale]
  refine congrArg₂ (· * ·) ?_ ?_
  · exact cast_unrows _ shapeCasts_S8192x2048_S256x32x2048 (blkN n) _ k n hn
  · refine (bcast_mid _ broadcasts_S256x1x2048_S256x32x2048 (blkN n) _ k).trans ?_
    exact (cast_mid _ shapeCasts_S256x2048_S256x1x2048 (blkN n) k).trans rfl

/-! ## The products -/

set_option maxRecDepth 65536 in
/-- The product over the columns of `dy`. -/
theorem mm_row (lhs : FVec Ideal S16384x8192 .bf16) (rhs : FVec Ideal S8192x2048 .bf16) (acc : FVec Ideal S16384x2048 .f32) (T : Fin 16384) (k : Fin 2048) :
    matmul (F := Ideal) dot_S16384x8192_S8192x2048_S16384x2048_1_0_0_1_n_n none lhs rhs acc (ix2 T k)
      = acc (ix2 T k) + ∑ n : Fin 8192, lhs (ix2 T n) * rhs (ix2 n k) :=
  Ideal.matmul_apply₁_of dot_S16384x8192_S8192x2048_S16384x2048_1_0_0_1_n_n (a := (1 : Fin 2)) rfl rfl lhs rhs acc _ _ _
    (fun i => by funext a; apply Fin.ext; match a with | ⟨0, _⟩ => rfl | ⟨1, _⟩ => rfl)
    (fun i => by funext a; apply Fin.ext; match a with | ⟨0, _⟩ => rfl | ⟨1, _⟩ => rfl)

set_option maxRecDepth 65536 in
/-- The product over the rows of `dy`. -/
theorem mm_col (lhs : FVec Ideal S16384x8192 .bf16) (rhs : FVec Ideal S16384x2048 .bf16) (acc : FVec Ideal S8192x2048 .f32) (n : Fin 8192) (k : Fin 2048) :
    matmul (F := Ideal) dot_S16384x8192_S16384x2048_S8192x2048_0_0_1_1_n_n none lhs rhs acc (ix2 n k)
      = acc (ix2 n k) + ∑ T : Fin 16384, lhs (ix2 T n) * rhs (ix2 T k) :=
  Ideal.matmul_apply₁_of dot_S16384x8192_S16384x2048_S8192x2048_0_0_1_1_n_n (a := (0 : Fin 2)) rfl rfl lhs rhs acc _ _ _
    (fun i => by funext a; apply Fin.ext; match a with | ⟨0, _⟩ => rfl | ⟨1, _⟩ => rfl)
    (fun i => by funext a; apply Fin.ext; match a with | ⟨0, _⟩ => rfl | ⟨1, _⟩ => rfl)

section Results
variable (a0 : FVec Ideal S32x512x8192 .bf16) (a1 : FVec Ideal S32x512x2048 .fp8e4m3) (a2 : IVec S32x16x2048 8)
  (a3 : FVec Ideal S8192x2048 .fp8e4m3) (a4 : IVec S256x2048 8) (a5 : FVec Ideal S8192x2048 .f32) (hX : ∀ i, Good (a0 i))

/-- A load of the whole of `dy`. -/
theorem ld0 (a0 : Vec Ideal S32x512x8192 .bf16) : View.ld a0 r0_0 = a0 :=
  View.ld_unit_zero (S := S32x512x8192) (by funext a; match a with | ⟨0, _⟩ => rfl | ⟨1, _⟩ => rfl | ⟨2, _⟩ => rfl) _ a0

include hX

/-- Result 3: the row codes. -/
theorem G8_apply (s : Fin 32) (t : Fin 512) (n : Fin 8192) :
    RefRun.G8 (F := Ideal) a0 a1 a2 a3 a4 a5 (ix3 s t n) = rowCode a0 s t n := by
  unfold RefRun.G8 k0_pay19
  rw [ld0]
  exact row_code a0 hX s t n

/-- Result 4: the row scale bytes. -/
theorem G9_apply (s : Fin 32) (t : Fin 512) (b : Fin 256) :
    RefRun.G9 (F := Ideal) a0 a1 a2 a3 a4 a5 (ix3 s t b) = rowByte a0 s t b := by
  unfold RefRun.G9 k0_pay20
  rw [ld0]
  exact row_byte a0 hX s t b

/-- Result 5: the column codes. -/
theorem G10_apply (s : Fin 32) (t : Fin 512) (n : Fin 8192) :
    RefRun.G10 (F := Ideal) a0 a1 a2 a3 a4 a5 (ix3 s t n) = colCodeS a0 s t n := by
  unfold RefRun.G10 k0_pay21 k0_pay18
  rw [ld0]
  exact col_code a0 hX s t n

/-- Result 6: the column scale bytes. -/
theorem G11_apply (s : Fin 32) (g : Fin 16) (n : Fin 8192) :
    RefRun.G11 (F := Ideal) a0 a1 a2 a3 a4 a5 (ix3 s g n) = colByteS a0 s g n := by
  unfold RefRun.G11 k0_pay22 k0_pay18
  rw [ld0]
  exact col_byte a0 hX s g n

/-- Result 1: the activation gradient. -/
theorem G6_apply (s : Fin 32) (t : Fin 512) (k : Fin 2048) :
    RefRun.G6 (F := Ideal) a0 a1 a2 a3 a4 a5 (ix3 s t k) = dxS a0 a3 a4 s t k := by
  unfold RefRun.G6 k0_pay19 k0_pay20 k0_pay15
  rw [ld0]
  refine (flat_uncast _ shapeCasts_S16384x2048_S32x512x2048 s t k).trans ?_
  refine (mm_row _ _ (constant S16384x2048 .f32 0x00000000#32) _ k).trans ?_
  refine (congrArg (· + _) (Ideal.ofBits_zero_f32)).trans ((zero_add _).trans (Finset.sum_congr rfl fun n _ => ?_))
  rw [row_deq a0 hX, w_deq]
  have h1 : slab ⟨512 * s.val + t.val, by omega⟩ = s := Fin.ext (by show (512 * s.val + t.val) / 512 = s.val; omega)
  have h2 : slot ⟨512 * s.val + t.val, by omega⟩ = t := Fin.ext (by show (512 * s.val + t.val) % 512 = t.val; omega)
  rw [h1, h2]

/-- Result 2: the main gradient. -/
theorem G7_apply (n : Fin 8192) (k : Fin 2048) :
    RefRun.G7 (F := Ideal) a0 a1 a2 a3 a4 a5 (ix2 n k) = mgS a0 a1 a2 a5 n k := by
  unfold RefRun.G7 k0_pay21 k0_pay22 k0_pay18 k0_pay1
  rw [ld0]
  unfold mgS
  refine congrArg (a5 (ix2 n k) + ·) ?_
  refine (mm_col _ _ (constant S8192x2048 .f32 0x00000000#32) n k).trans ?_
  refine (congrArg (· + _) (Ideal.ofBits_zero_f32)).trans ((zero_add _).trans (Finset.sum_congr rfl fun T _ => ?_))
  refine congrArg₂ (· * ·) ((flat_cast _ shapeCasts_S32x512x8192_S16384x8192 T n).trans (col_deq a0 hX _ _ n))
    ((flat_cast _ shapeCasts_S32x512x2048_S16384x2048 T k).trans ?_)
  have ht : (slot T).val = 32 * (blkT (slot T)).val + (⟨(slot T).val % 32, by omega⟩ : Fin 32).val := by
    show (slot T).val = 32 * ((slot T).val / 32) + (slot T).val % 32; omega
  refine (col_uncast _ shapeCasts_S32x16x32x2048_S32x512x2048 _ (blkT (slot T)) _ k (slot T) ht).trans ?_
  unfold xDeq
  rw [← rScale]
  refine congrArg₂ (· * ·) (col_cast _ shapeCasts_S32x512x2048_S32x16x32x2048 _ (blkT (slot T)) _ k (slot T) ht) ?_
  refine (col_bcast _ broadcasts_S32x16x1x2048_S32x16x32x2048 _ (blkT (slot T)) _ k).trans ?_
  exact (col_unit _ shapeCasts_S32x16x2048_S32x16x1x2048 _ (blkT (slot T)) k).trans rfl

end Results

end Cert.RefVal
-- ==== Proof.HostVal.lean ====
/- The kernel's six results as the reference's: the host's reshapes around the three calls. -/
module

public import proofs.«01_k».proof.Proof.Arrays
public import proofs.«01_k».proof.Proof.Arrays2
public import proofs.«01_k».proof.Proof.RefVal
public import Idealize.ShloMosaic.Lib.StableHlo.RunRead

@[expose] public section

noncomputable section

namespace Cert.HostVal

open Idealize.ShloMosaic hiding ix2 ix3 ix4
open Idealize.ShloMosaic.TcCoe Idealize.ShloMosaic.Tactic
open Idealize.ShloMosaic.ValueIdx Cert.KernelIdeal Cert.KernelIdeal.Gen Cert.Mx Cert.Arrays

/-- `dy` as the calls see it: the slabs' rows one after the other. -/
abbrev flatD (a0 : IDy → EReal) : S16384x8192.Idx → EReal := fun y => a0 (ix3 (slab (y 0)) (slot (y 0)) (y 1))

/-- `x` as the third call sees it. -/
abbrev flatX (a1 : IX → EReal) : S16384x2048.Idx → EReal := fun y => a1 (ix3 (slab (y 0)) (slot (y 0)) (y 1))

/-- Row `t` of slab `s`, among all rows. -/
abbrev rowT (s : Fin 32) (t : Fin 512) : Fin 16384 := ⟨512 * s.val + t.val, by omega⟩

theorem slab_rowT (s : Fin 32) (t : Fin 512) : slab (rowT s t) = s := Fin.ext (by show (512 * s.val + t.val) / 512 = s.val; omega)
theorem slot_rowT (s : Fin 32) (t : Fin 512) : slot (rowT s t) = t := Fin.ext (by show (512 * s.val + t.val) % 512 = t.val; omega)

/-- A block of columns is a block of its slab. -/
theorem colB (a0 : IDy → EReal) (G : Fin 512) (n : Fin 8192) (s : Fin 32) (g : Fin 16) (h : G.val = 16 * s.val + g.val) :
    cBlk2 (flatD a0) G n = colBlk a0 s g n := funext fun k => by
  have e1 : slab (⟨32 * G.val + k.val, by omega⟩ : Fin 16384) = s := Fin.ext (by show (32 * G.val + k.val) / 512 = s.val; omega)
  have e2 : slot (⟨32 * G.val + k.val, by omega⟩ : Fin 16384) = ⟨32 * g.val + k.val, by omega⟩ :=
    Fin.ext (by show (32 * G.val + k.val) % 512 = 32 * g.val + k.val; omega)
  show a0 (ix3 (slab (⟨32 * G.val + k.val, by omega⟩ : Fin 16384)) (slot (⟨32 * G.val + k.val, by omega⟩ : Fin 16384)) n)
    = a0 (ix3 s (⟨32 * g.val + k.val, by omega⟩ : Fin 512) n)
  rw [e1, e2]

/-- A block of a row is a block of its slab's row. -/
theorem rowB (a0 : IDy → EReal) (s : Fin 32) (t : Fin 512) (b : Fin 256) : rBlk (flatD a0) (rowT s t) b = rowBlk a0 s t b :=
  funext fun k => by
    show a0 (ix3 (slab (rowT s t)) (slot (rowT s t)) _) = a0 (ix3 s t _)
    rw [slab_rowT, slot_rowT]

/-- An entry of `dy`, by its slab. -/
theorem flatD_rowT (a0 : IDy → EReal) (s : Fin 32) (t : Fin 512) (n : Fin 8192) : flatD a0 (ix2 (rowT s t) n) = a0 (ix3 s t n) := by
  show a0 (ix3 (slab (rowT s t)) (slot (rowT s t)) n) = a0 (ix3 s t n)
  rw [slab_rowT, slot_rowT]

/-- The activation gradient, by slabs. -/
theorem dx_val (a0 : IDy → EReal) (w : IW → EReal) (ws : IWs → BitVec 8) (s : Fin 32) (t : Fin 512) (k : Fin 2048) :
    dxArr (flatD a0) (wArr w ws) (ix2 (rowT s t) k) = dxS a0 w ws s t k :=
  Finset.sum_congr rfl fun n _ => by
    show deqV (rBlk (flatD a0) (rowT s t) (blkN n)) (flatD a0 (ix2 (rowT s t) n)) * wDeq w ws n k = _
    rw [rowB, flatD_rowT]
    rfl

/-- The main gradient. -/
theorem mg_val (a0 : IDy → EReal) (a1 : IX → EReal) (a2 : IXs → BitVec 8) (a5 : IW → EReal) (n : Fin 8192) (k : Fin 2048) :
    mgArr (flatD a0) (flatX a1) a2 a5 (ix2 n k) = mgS a0 a1 a2 a5 n k :=
  congrArg (a5 (ix2 n k) + ·) (Finset.sum_congr rfl fun T _ => by
    show deqV (cBlk2 (flatD a0) (blkG T) n) _ * _ = _
    rw [colB a0 (blkG T) n (slab T) (blkT (slot T)) (by show T.val / 32 = 16 * (T.val / 512) + T.val % 512 / 32; omega)]
    rfl)

variable (m : (ℓ : Loc nD τ sig) → Buf (Elt Ideal) ℓ) (ρ : Dev nD → PrngReg) (c : Dev nD)

/-- The arguments as launched. -/
abbrev a0 : FVec Ideal S32x512x8192 .bf16 := m ((c.tc : Thread nD τ).loc main_arg0)
abbrev a1 : FVec Ideal S32x512x2048 .fp8e4m3 := m ((c.tc : Thread nD τ).loc main_arg1)
abbrev a2 : IVec S32x16x2048 8 := m ((c.tc : Thread nD τ).loc main_arg2)
abbrev a3 : FVec Ideal S8192x2048 .fp8e4m3 := m ((c.tc : Thread nD τ).loc main_arg3)
abbrev a4 : IVec S256x2048 8 := m ((c.tc : Thread nD τ).loc main_arg4)
abbrev a5 : FVec Ideal S8192x2048 .f32 := m ((c.tc : Thread nD τ).loc main_arg5)

/-- The host's first reshape, read: `dy` flat. -/
theorem V1_v0 : V1 m ρ c main_v0 = flatD (a0 m c) := by
  have h : V1 m ρ c main_v0 = shapeCast S16384x8192 (a0 m c) shapeCasts_S32x512x8192_S16384x8192 := by
    show StableHlo.after hostOps0 (W0 m ρ c) (Proc.devRef .tc main_v0) = _
    after_reads_simp
    rfl
  rw [h]
  funext y
  obtain ⟨T, n, rfl⟩ : ∃ (T : Fin 16384) (n : Fin 8192), y = ix2 T n := ex2 y
  exact Cert.RefVal.flat_cast _ _ T n

/-- The host's second reshape, read: `x` flat. -/
theorem V1_v1 : V1 m ρ c main_v1 = flatX (a1 m c) := by
  have h : V1 m ρ c main_v1 = shapeCast S16384x2048 (a1 m c) shapeCasts_S32x512x2048_S16384x2048 := by
    show StableHlo.after hostOps0 (W0 m ρ c) (Proc.devRef .tc main_v1) = _
    after_reads_simp
    rfl
  rw [h]
  funext y
  obtain ⟨T, n, rfl⟩ : ∃ (T : Fin 16384) (n : Fin 2048), y = ix2 T n := ex2 y
  exact Cert.RefVal.flat_cast _ _ T n

theorem V2_v0 : V2 m ρ c main_v0 = flatD (a0 m c) := (W2_of m ρ c main_v0 (by decide)).trans (V1_v0 m ρ c)
theorem V3_v0 : V3 m ρ c main_v0 = flatD (a0 m c) := (W3_of m ρ c main_v0 (by decide)).trans (V2_v0 m ρ c)
theorem V3_v1 : V3 m ρ c main_v1 = flatX (a1 m c) :=
  (W3_of m ρ c main_v1 (by decide)).trans ((W2_of m ρ c main_v1 (by decide)).trans (V1_v1 m ρ c))

/-- The decoded weights the second call finds. -/
theorem V2_v2 : V2 m ρ c main_v2 = wArr (a3 m c) (a4 m c) := by
  refine (W2_arr m ρ c 2).trans ((final0 (V1 m ρ) c).trans ?_)
  rw [show V1 m ρ c main_arg3 = a3 m c from W1_args m ρ c main_arg3 (by decide),
    show V1 m ρ c main_arg4 = a4 m c from W1_args m ρ c main_arg4 (by decide)]

section Results
variable (hX : ∀ i, Good (a0 m c i))
include hX

theorem good2 : ∀ y, Good (V2 m ρ c main_v0 y) := by
  rw [V2_v0]
  exact fun y => hX _
theorem good3 : ∀ y, Good (V3 m ρ c main_v0 y) := by
  rw [V3_v0]
  exact fun y => hX _

/-- Result 1. -/
theorem res0 : W5 m ρ c (Proc.devRef .tc main_v5) = RefRun.G6 (F := Ideal) (a0 m c) (a1 m c) (a2 m c) (a3 m c) (a4 m c) (a5 m c) := by
  have h4 : W4 m ρ c (Proc.devRef .tc main_v3_0) = dxArr (flatD (a0 m c)) (wArr (a3 m c) (a4 m c)) := by
    refine (W4_of m ρ c main_v3_0 (by decide)).trans ((W3_arr m ρ c 2).trans ((final1_2 (V2 m ρ) c (good2 m ρ c hX)).trans ?_))
    rw [V2_v0, V2_v2]
  have h : W5 m ρ c (Proc.devRef .tc main_v5)
      = shapeCast S32x512x2048 (dxArr (flatD (a0 m c)) (wArr (a3 m c) (a4 m c))) shapeCasts_S16384x2048_S32x512x2048 := by
    rw [← h4]
    show StableHlo.after hostOps3 (W4 m ρ c) (Proc.devRef .tc main_v5) = _
    after_reads_simp
    rfl
  rw [h]
  funext y
  obtain ⟨s, t, k, rfl⟩ : ∃ (s : Fin 32) (t : Fin 512) (k : Fin 2048), y = ix3 s t k := ex3 y
  exact (Cert.RefVal.flat_uncast _ _ s t k).trans ((dx_val _ _ _ s t k).trans (Cert.RefVal.G6_apply _ _ _ _ _ _ hX s t k).symm)

/-- Result 2. -/
theorem res1 : W5 m ρ c (Proc.devRef .tc main_v4_0) = RefRun.G7 (F := Ideal) (a0 m c) (a1 m c) (a2 m c) (a3 m c) (a4 m c) (a5 m c) := by
  have h : W5 m ρ c (Proc.devRef .tc main_v4_0) = mgArr (flatD (a0 m c)) (flatX (a1 m c)) (a2 m c) (a5 m c) := by
    refine (W5_of m ρ c main_v4_0 (by decide)).trans ((W4_arr m ρ c 4).trans ((final2_4 (V3 m ρ) c (good3 m ρ c hX)).trans ?_))
    rw [V3_v0, V3_v1, show V3 m ρ c main_arg2 = a2 m c from W3_args m ρ c main_arg2 (by decide),
      show V3 m ρ c main_arg5 = a5 m c from W3_args m ρ c main_arg5 (by decide)]
  rw [h]
  funext y
  obtain ⟨n, k, rfl⟩ : ∃ (n : Fin 8192) (k : Fin 2048), y = ix2 n k := ex2 y
  exact (mg_val _ _ _ _ n k).trans (Cert.RefVal.G7_apply _ _ _ _ _ _ hX n k).symm

/-- Result 3. -/
theorem res2 : W5 m ρ c (Proc.devRef .tc main_v6) = RefRun.G8 (F := Ideal) (a0 m c) (a1 m c) (a2 m c) (a3 m c) (a4 m c) (a5 m c) := by
  have h4 : W4 m ρ c (Proc.devRef .tc main_v3_1) = rcArr (flatD (a0 m c)) := by
    refine (W4_of m ρ c main_v3_1 (by decide)).trans ((W3_arr m ρ c 3).trans ((final1_3 (V2 m ρ) c (good2 m ρ c hX)).trans ?_))
    rw [V2_v0]
  have h : W5 m ρ c (Proc.devRef .tc main_v6) = shapeCast S32x512x8192 (rcArr (flatD (a0 m c))) shapeCasts_S16384x8192_S32x512x8192 := by
    rw [← h4]
    show StableHlo.after hostOps3 (W4 m ρ c) (Proc.devRef .tc main_v6) = _
    after_reads_simp
    rfl
  rw [h]
  funext y
  obtain ⟨s, t, n, rfl⟩ : ∃ (s : Fin 32) (t : Fin 512) (n : Fin 8192), y = ix3 s t n := ex3 y
  refine (Cert.RefVal.flat_uncast _ _ s t n).trans (Eq.trans ?_ (Cert.RefVal.G8_apply _ _ _ _ _ _ hX s t n).symm)
  show codeV (rBlk (flatD (a0 m c)) (rowT s t) (blkN n)) (flatD (a0 m c) (ix2 (rowT s t) n)) = _
  rw [rowB, flatD_rowT]
  rfl

/-- Result 4. -/
theorem res3 : W5 m ρ c (Proc.devRef .tc main_v7) = RefRun.G9 (F := Ideal) (a0 m c) (a1 m c) (a2 m c) (a3 m c) (a4 m c) (a5 m c) := by
  have h4 : W4 m ρ c (Proc.devRef .tc main_v3_2) = rbArr (flatD (a0 m c)) := by
    refine (W4_of m ρ c main_v3_2 (by decide)).trans ((W3_arr m ρ c 4).trans ((final1_4 (V2 m ρ) c).trans ?_))
    rw [V2_v0]
  have h : W5 m ρ c (Proc.devRef .tc main_v7) = shapeCast S32x512x256 (rbArr (flatD (a0 m c))) shapeCasts_S16384x256_S32x512x256 := by
    rw [← h4]
    show StableHlo.after hostOps3 (W4 m ρ c) (Proc.devRef .tc main_v7) = _
    after_reads_simp
    rfl
  rw [h]
  funext y
  obtain ⟨s, t, b, rfl⟩ : ∃ (s : Fin 32) (t : Fin 512) (b : Fin 256), y = ix3 s t b := ex3 y
  refine (Cert.RefVal.flat_uncast _ _ s t b).trans (Eq.trans ?_ (Cert.RefVal.G9_apply _ _ _ _ _ _ hX s t b).symm)
  show BitVec.ofNat 8 (scaleN (rBlk (flatD (a0 m c)) (rowT s t) b)) = _
  rw [rowB]
  rfl

/-- Result 5. -/
theorem res4 : W5 m ρ c (Proc.devRef .tc main_v8) = RefRun.G10 (F := Ideal) (a0 m c) (a1 m c) (a2 m c) (a3 m c) (a4 m c) (a5 m c) := by
  have h4 : W4 m ρ c (Proc.devRef .tc main_v4_1) = ccArr (flatD (a0 m c)) := by
    refine (W4_arr m ρ c 5).trans ((final2_5 (V3 m ρ) c (good3 m ρ c hX)).trans ?_)
    rw [V3_v0]
  have h : W5 m ρ c (Proc.devRef .tc main_v8) = shapeCast S32x512x8192 (ccArr (flatD (a0 m c))) shapeCasts_S16384x8192_S32x512x8192 := by
    rw [← h4]
    show StableHlo.after hostOps3 (W4 m ρ c) (Proc.devRef .tc main_v8) = _
    after_reads_simp
    rfl
  rw [h]
  funext y
  obtain ⟨s, t, n, rfl⟩ : ∃ (s : Fin 32) (t : Fin 512) (n : Fin 8192), y = ix3 s t n := ex3 y
  refine (Cert.RefVal.flat_uncast _ _ s t n).trans (Eq.trans ?_ (Cert.RefVal.G10_apply _ _ _ _ _ _ hX s t n).symm)
  show codeV (cBlk2 (flatD (a0 m c)) (blkG (rowT s t)) n) (flatD (a0 m c) (ix2 (rowT s t) n)) = _
  rw [colB (a0 m c) (blkG (rowT s t)) n s (blkT t) (by show (512 * s.val + t.val) / 32 = 16 * s.val + t.val / 32; omega), flatD_rowT]
  rfl

/-- Result 6. -/
theorem res5 : W5 m ρ c (Proc.devRef .tc main_v4_2) = RefRun.G11 (F := Ideal) (a0 m c) (a1 m c) (a2 m c) (a3 m c) (a4 m c) (a5 m c) := by
  have h : W5 m ρ c (Proc.devRef .tc main_v4_2) = cbArr (flatD (a0 m c)) := by
    refine (W5_of m ρ c main_v4_2 (by decide)).trans ((W4_arr m ρ c 6).trans ((final2_6 (V3 m ρ) c).trans ?_))
    rw [V3_v0]
  rw [h]
  funext y
  obtain ⟨s, g, n, rfl⟩ : ∃ (s : Fin 32) (g : Fin 16) (n : Fin 8192), y = ix3 s g n := ex3 y
  refine Eq.trans ?_ (Cert.RefVal.G11_apply _ _ _ _ _ _ hX s g n).symm
  show BitVec.ofNat 8 (scaleN (cBlk2 (flatD (a0 m c)) (blkS s g) n)) = _
  rw [colB (a0 m c) (blkS s g) n s g rfl]
  rfl

end Results

end Cert.HostVal
-- ==== Proof.Algebraic.lean ====
/- The kernel and the reference leave the same six results. -/
module

public import proofs.«01_k».proof.Defs
public import proofs.«01_k».proof.Proof.Gen.Pre_bf16_range
public import proofs.«01_k».proof.Proof.Prec
public import proofs.«01_k».proof.Proof.KernelRun
public import proofs.«01_k».proof.Proof.HostVal

@[expose] public section

noncomputable section

namespace Cert.Algebraic

open Idealize.ShloMosaic Idealize.ShloMosaic.TcCoe Idealize.SL.Sem

/-- Both runs leave the reference's values of the arguments. -/
theorem algebraic : Cert.algebraic_KernelIdeal_ReferenceIdeal_pre_bf16_range := by
  intro m g m' g' hpre hargs
  have hX : ∀ c i, Cert.Mx.Good (Cert.HostVal.a0 m c i) := fun c i => Cert.Prec.good _ _ _ _ _ _ (hpre c) i
  refine ⟨fun c => Cert.RefRun.G6 (F := Ideal) (Cert.HostVal.a0 m c) (Cert.HostVal.a1 m c) (Cert.HostVal.a2 m c) (Cert.HostVal.a3 m c) (Cert.HostVal.a4 m c) (Cert.HostVal.a5 m c),
    fun c => Cert.RefRun.G7 (F := Ideal) (Cert.HostVal.a0 m c) (Cert.HostVal.a1 m c) (Cert.HostVal.a2 m c) (Cert.HostVal.a3 m c) (Cert.HostVal.a4 m c) (Cert.HostVal.a5 m c),
    fun c => Cert.RefRun.G8 (F := Ideal) (Cert.HostVal.a0 m c) (Cert.HostVal.a1 m c) (Cert.HostVal.a2 m c) (Cert.HostVal.a3 m c) (Cert.HostVal.a4 m c) (Cert.HostVal.a5 m c),
    fun c => Cert.RefRun.G9 (F := Ideal) (Cert.HostVal.a0 m c) (Cert.HostVal.a1 m c) (Cert.HostVal.a2 m c) (Cert.HostVal.a3 m c) (Cert.HostVal.a4 m c) (Cert.HostVal.a5 m c),
    fun c => Cert.RefRun.G10 (F := Ideal) (Cert.HostVal.a0 m c) (Cert.HostVal.a1 m c) (Cert.HostVal.a2 m c) (Cert.HostVal.a3 m c) (Cert.HostVal.a4 m c) (Cert.HostVal.a5 m c),
    fun c => Cert.RefRun.G11 (F := Ideal) (Cert.HostVal.a0 m c) (Cert.HostVal.a1 m c) (Cert.HostVal.a2 m c) (Cert.HostVal.a3 m c) (Cert.HostVal.a4 m c) (Cert.HostVal.a5 m c),
    (θ_run _ _ _).mono (fun r h c => ?_) (Cert.KernelRun.run m g),
    (θ_run _ _ _).mono (fun r h c => ?_) (Cert.RefRun.run m' g')⟩
  · obtain ⟨h0, h1, h2, h3, h4, h5, k⟩ := h c
    exact ⟨h0.trans (Cert.HostVal.res0 m g c (hX c)), h1.trans (Cert.HostVal.res1 m g c (hX c)), h2.trans (Cert.HostVal.res2 m g c (hX c)),
      h3.trans (Cert.HostVal.res3 m g c (hX c)), h4.trans (Cert.HostVal.res4 m g c (hX c)), h5.trans (Cert.HostVal.res5 m g c (hX c)), k⟩
  · obtain ⟨e0, e1, e2, e3, e4, e5⟩ := hargs c
    obtain ⟨h0, h1, h2, h3, h4, h5, k⟩ := h c
    rw [e0, e1, e2, e3, e4, e5] at h0 h1 h2 h3 h4 h5
    exact ⟨h0, h1, h2, h3, h4, h5, k⟩

end Cert.Algebraic
-- ==== Proof.lean ====
module

public import proofs.«01_k».proof.Defs
public import proofs.«01_k».proof.Proof.Gen.Pre_bf16_range
public import proofs.«01_k».proof.Proof.Gen.Kernel.Frame
public import proofs.«01_k».proof.Proof.Gen.KernelIdeal.Frame
public import proofs.«01_k».proof.Proof.Gen.Reference.Frame
public import proofs.«01_k».proof.Proof.Gen.ReferenceIdeal.Frame
public import proofs.«01_k».proof.Proof.Algebraic
public import Idealize.ShloMosaic.Lib.Bf16Pair

@[expose] public section

open Idealize.ShloMosaic

theorem Cert.Proof.claim : Cert.Claim :=
  ⟨Cert.Kernel.Gen.facts, Cert.KernelIdeal.Gen.facts, Cert.ReferenceIdeal.Gen.facts, Cert.Reference.Gen.facts,
    Cert.Pre_bf16_range.Gen.facts,
    fun m ρ _ => Cert.Kernel.Gen.frame m ρ, fun m ρ _ => Cert.KernelIdeal.Gen.frame m ρ,
    fun m ρ _ => Cert.KernelIdeal.Gen.frame m ρ, fun m ρ _ => Cert.ReferenceIdeal.Gen.frame m ρ,
    fun m ρ _ => Cert.ReferenceIdeal.Gen.frame m ρ, fun m ρ _ => Cert.Reference.Gen.frame m ρ,
    ⟨IdealRules.bf16_pair.statement Cert.KernelIdeal.S256x256 Cert.KernelIdeal.S128x256,
      IdealRules.bf16_pair.statement Cert.KernelIdeal.S128x256 Cert.KernelIdeal.S64x256,
      IdealRules.bf16_pair.statement Cert.KernelIdeal.S512x1024 Cert.KernelIdeal.S256x1024,
      IdealRules.bf16_pair.statement Cert.KernelIdeal.S256x1024 Cert.KernelIdeal.S128x1024⟩,
    IdealRules.named_const.statement Cert.ReferenceIdeal.κ "ln2" .f32 0x3F317218#32 ((Real.log 2 : ℝ) : EReal) rfl,
    Cert.Algebraic.algebraic⟩
